-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)) (v2 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_v24) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45_6) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S512x256 : Shape := ⟨2, ![512, 256]⟩
abbrev S512x64x256 : Shape := ⟨3, ![512, 64, 256]⟩
abbrev S512 : Shape := ⟨1, ![512]⟩
abbrev S256x256 : Shape := ⟨2, ![256, 256]⟩
abbrev S256 : Shape := ⟨1, ![256]⟩
abbrev S1x256 : Shape := ⟨2, ![1, 256]⟩
abbrev S1 : Shape := ⟨1, ![1]⟩
abbrev S64x256 : Shape := ⟨2, ![64, 256]⟩
abbrev S2048x256 : Shape := ⟨2, ![2048, 256]⟩
abbrev S2048x512 : Shape := ⟨2, ![2048, 512]⟩
abbrev S2048 : Shape := ⟨1, ![2048]⟩
abbrev S_ : Shape := ⟨0, ![]⟩

class Facts : Prop where
  bcast_S_S512 : S_.BroadcastsInDim S512 (![] : Fin 0 → Fin S512.rank)
  bcast_S_S64x256 : S_.BroadcastsInDim S64x256 (![] : Fin 0 → Fin S64x256.rank)
  bcast_S_S2048x256 : S_.BroadcastsInDim S2048x256 (![] : Fin 0 → Fin S2048x256.rank)
  reducesTo_S512_S_d0 : S512.ReducesTo [0] S_
  h_S_ : 0 < S_.numel
  reducesTo_S64x256_S_d0_1 : S64x256.ReducesTo [0, 1] S_
  reducesTo_S2048x256_S_d0_1 : S2048x256.ReducesTo [0, 1] S_

variable [Facts]

def fn {F : FTy → Type} [FloatOps F] (main_arg0 : FVec F S512x256 .f32) (main_arg1 : FVec F S512x64x256 .f32) (main_arg2 : IVec S512 32) (main_arg3 : FVec F S256x256 .f32) (main_arg4 : FVec F S256 .f32) (main_arg5 : FVec F S1x256 .f32) (main_arg6 : FVec F S1 .f32) (main_arg7 : FVec F S64x256 .f32) (main_arg8 : FVec F S2048x256 .f32) (main_arg9 : FVec F S2048x512 .f32) (main_arg10 : FVec F S2048 .f32) (main_arg11 : FVec F S2048 .f32) : IVec S_ 1 :=
  let main_c : IVec S_ 32 := constantI S_ 32 0#32
  let main_v0 : IVec S512 32 := broadcastInDim S512 ![] bcast_S_S512 main_c
  let main_v1 : IVec S512 1 := cmpi .sge main_arg2 main_v0
  let main_v2 : FVec F S64x256 .f32 := Host.absf main_arg7
  let main_cst : FVec F S_ .f32 := constant S_ .f32 0x7F800000#32
  let main_v3 : FVec F S64x256 .f32 := broadcastInDim S64x256 ![] bcast_S_S64x256 main_cst
  let main_v4 : IVec S64x256 1 := cmpf .olt main_v2 main_v3
  let main_v5 : FVec F S2048x256 .f32 := Host.absf main_arg8
  let main_cst_0 : FVec F S_ .f32 := constant S_ .f32 0x7F800000#32
  let main_v6 : FVec F S2048x256 .f32 := broadcastInDim S2048x256 ![] bcast_S_S2048x256 main_cst_0
  let main_v7 : IVec S2048x256 1 := cmpf .olt main_v5 main_v6
  let main_c_1 : IVec S_ 1 := constantI S_ 1 1#1
  let main_v8 : IVec S_ 1 := (fun x v => Host.reduce IntOp.andi x v reducesTo_S512_S_d0 h_S_) main_v1 main_c_1
  let main_c_2 : IVec S_ 1 := constantI S_ 1 1#1
  let main_v9 : IVec S_ 1 := (fun x v => Host.reduce IntOp.andi x v reducesTo_S64x256_S_d0_1 h_S_) main_v4 main_c_2
  let main_v10 : IVec S_ 1 := andi main_v8 main_v9
  let main_c_3 : IVec S_ 1 := constantI S_ 1 1#1
  let main_v11 : IVec S_ 1 := (fun x v => Host.reduce IntOp.andi x v reducesTo_S2048x256_S_d0_1 h_S_) main_v7 main_c_3
  let main_v12 : IVec S_ 1 := andi main_v10 main_v11
  main_v12
-- ==== Kernel.lean ====
abbrev S512x256 : Shape := ⟨2, ![512, 256]⟩
abbrev S512x64x256 : Shape := ⟨3, ![512, 64, 256]⟩
abbrev S512 : Shape := ⟨1, ![512]⟩
abbrev S256x256 : Shape := ⟨2, ![256, 256]⟩
abbrev S256 : Shape := ⟨1, ![256]⟩
abbrev S1x256 : Shape := ⟨2, ![1, 256]⟩
abbrev S1 : Shape := ⟨1, ![1]⟩
abbrev S64x256 : Shape := ⟨2, ![64, 256]⟩
abbrev S2048x256 : Shape := ⟨2, ![2048, 256]⟩
abbrev S2048x512 : Shape := ⟨2, ![2048, 512]⟩
abbrev S2048 : Shape := ⟨1, ![2048]⟩
abbrev S512x1 : Shape := ⟨2, ![512, 1]⟩
abbrev S_ : Shape := ⟨0, ![]⟩
abbrev S256x2048 : Shape := ⟨2, ![256, 2048]⟩
abbrev S1x2048 : Shape := ⟨2, ![1, 2048]⟩
abbrev S512x2048 : Shape := ⟨2, ![512, 2048]⟩
abbrev S768x2048 : Shape := ⟨2, ![768, 2048]⟩
abbrev S1x1 : Shape := ⟨2, ![1, 1]⟩
abbrev S512x512 : Shape := ⟨2, ![512, 512]⟩
abbrev S256x16x256 : Shape := ⟨3, ![256, 16, 256]⟩
abbrev S256x1 : Shape := ⟨2, ![256, 1]⟩
abbrev S256x512 : Shape := ⟨2, ![256, 512]⟩
abbrev S256x768 : Shape := ⟨2, ![256, 768]⟩
abbrev S64x2048 : Shape := ⟨2, ![64, 2048]⟩
abbrev S16x256x256 : Shape := ⟨3, ![16, 256, 256]⟩
abbrev S256x16x1 : Shape := ⟨3, ![256, 16, 1]⟩
abbrev S256x1x1 : Shape := ⟨3, ![256, 1, 1]⟩
abbrev S256x1x256 : Shape := ⟨3, ![256, 1, 256]⟩
abbrev S1x256x256 : Shape := ⟨3, ![1, 256, 256]⟩

abbrev nBuf : Space → Nat
  | .hbm => 43
  | .vmem => 25
  | .smem => 0
  | _ => 0

abbrev bufTy : (tb : Table) → Fin (tcTables nBuf tb) → BufTy
  | .hbm, ⟨0, _⟩ => ⟨S512x256, .f32⟩
  | .hbm, ⟨1, _⟩ => ⟨S512x64x256, .f32⟩
  | .hbm, ⟨2, _⟩ => ⟨S512, .i32⟩
  | .hbm, ⟨3, _⟩ => ⟨S256x256, .f32⟩
  | .hbm, ⟨4, _⟩ => ⟨S256, .f32⟩
  | .hbm, ⟨5, _⟩ => ⟨S1x256, .f32⟩
  | .hbm, ⟨6, _⟩ => ⟨S1, .f32⟩
  | .hbm, ⟨7, _⟩ => ⟨S64x256, .f32⟩
  | .hbm, ⟨8, _⟩ => ⟨S2048x256, .f32⟩
  | .hbm, ⟨9, _⟩ => ⟨S2048x512, .f32⟩
  | .hbm, ⟨10, _⟩ => ⟨S2048, .f32⟩
  | .hbm, ⟨11, _⟩ => ⟨S2048, .f32⟩
  | .hbm, ⟨12, _⟩ => ⟨S512x1, .i32⟩
  | .hbm, ⟨13, _⟩ => ⟨S256x256, .f32⟩
  | .hbm, ⟨14, _⟩ => ⟨S_, .f32⟩
  | .hbm, ⟨15, _⟩ => ⟨S512, .f32⟩
  | .hbm, ⟨16, _⟩ => ⟨S_, .f32⟩
  | .hbm, ⟨17, _⟩ => ⟨S512, .f32⟩
  | .hbm, ⟨18, _⟩ => ⟨S_, .f32⟩
  | .hbm, ⟨19, _⟩ => ⟨S512, .f32⟩
  | .hbm, ⟨20, _⟩ => ⟨S_, .f32⟩
  | .hbm, ⟨21, _⟩ => ⟨S512, .f32⟩
  | .hbm, ⟨22, _⟩ => ⟨S2048, .f32⟩
  | .hbm, ⟨23, _⟩ => ⟨S256x2048, .f32⟩
  | .hbm, ⟨24, _⟩ => ⟨S1x2048, .f32⟩
  | .hbm, ⟨25, _⟩ => ⟨S256x2048, .f32⟩
  | .hbm, ⟨26, _⟩ => ⟨S256x2048, .f32⟩
  | .hbm, ⟨27, _⟩ => ⟨S256x2048, .bf16⟩
  | .hbm, ⟨28, _⟩ => ⟨S512x2048, .f32⟩
  | .hbm, ⟨29, _⟩ => ⟨S1x2048, .f32⟩
  | .hbm, ⟨30, _⟩ => ⟨S512x2048, .f32⟩
  | .hbm, ⟨31, _⟩ => ⟨S512x2048, .f32⟩
  | .hbm, ⟨32, _⟩ => ⟨S512x2048, .bf16⟩
  | .hbm, ⟨33, _⟩ => ⟨S768x2048, .bf16⟩
  | .hbm, ⟨34, _⟩ => ⟨S2048, .f32⟩
  | .hbm, ⟨35, _⟩ => ⟨S2048, .f32⟩
  | .hbm, ⟨36, _⟩ => ⟨S1x2048, .f32⟩
  | .hbm, ⟨37, _⟩ => ⟨S1x256, .f32⟩
  | .hbm, ⟨38, _⟩ => ⟨S1x1, .f32⟩
  | .hbm, ⟨39, _⟩ => ⟨S512x512, .f32⟩
  | .hbm, ⟨40, _⟩ => ⟨S512x64x256, .f32⟩
  | .hbm, ⟨41, _⟩ => ⟨S512x1, .i32⟩
  | .hbm, ⟨42, _⟩ => ⟨S512, .i32⟩
  | .local _ .vmem, ⟨0, _⟩ => ⟨S256x256, .f32⟩
  | .local _ .vmem, ⟨1, _⟩ => ⟨S256x256, .f32⟩
  | .local _ .vmem, ⟨2, _⟩ => ⟨S256x16x256, .f32⟩
  | .local _ .vmem, ⟨3, _⟩ => ⟨S256x16x256, .f32⟩
  | .local _ .vmem, ⟨4, _⟩ => ⟨S256x1, .i32⟩
  | .local _ .vmem, ⟨5, _⟩ => ⟨S256x1, .i32⟩
  | .local _ .vmem, ⟨6, _⟩ => ⟨S256x256, .f32⟩
  | .local _ .vmem, ⟨7, _⟩ => ⟨S1x256, .f32⟩
  | .local _ .vmem, ⟨8, _⟩ => ⟨S1x256, .f32⟩
  | .local _ .vmem, ⟨9, _⟩ => ⟨S1x1, .f32⟩
  | .local _ .vmem, ⟨10, _⟩ => ⟨S64x256, .f32⟩
  | .local _ .vmem, ⟨11, _⟩ => ⟨S768x2048, .bf16⟩
  | .local _ .vmem, ⟨12, _⟩ => ⟨S1x2048, .f32⟩
  | .local _ .vmem, ⟨13, _⟩ => ⟨S256x512, .f32⟩
  | .local _ .vmem, ⟨14, _⟩ => ⟨S256x512, .f32⟩
  | .local _ .vmem, ⟨15, _⟩ => ⟨S256x16x256, .f32⟩
  | .local _ .vmem, ⟨16, _⟩ => ⟨S256x16x256, .f32⟩
  | .local _ .vmem, ⟨17, _⟩ => ⟨S256x1, .i32⟩
  | .local _ .vmem, ⟨18, _⟩ => ⟨S256x1, .i32⟩
  | .local _ .vmem, ⟨19, _⟩ => ⟨S256x256, .f32⟩
  | .local _ .vmem, ⟨20, _⟩ => ⟨S256x1, .f32⟩
  | .local _ .vmem, ⟨21, _⟩ => ⟨S256x768, .bf16⟩
  | .local _ .vmem, ⟨22, _⟩ => ⟨S256x512, .f32⟩
  | .local _ .vmem, ⟨23, _⟩ => ⟨S64x2048, .f32⟩
  | .local _ .vmem, ⟨24, _⟩ => ⟨S16x256x256, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23_0 : Ref sig .tc := ⟨.hbm, 39, rfl⟩
abbrev main_v23_1 : Ref sig .tc := ⟨.hbm, 40, rfl⟩
abbrev main_v23_2 : Ref sig .tc := ⟨.hbm, 41, rfl⟩
abbrev main_v24 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![2, 4], ![false, false]⟩

def k0_off1 (i : grid0.Coords) (c0_i32_16 : BitVec 32) : Fin 2 → Nat :=
  let arg1 : BitVec 32 := BitVec.ofNat 32 (i 1).val
  let c16_i32_15 : BitVec 32 := 16#32
  let v32 : BitVec 32 := Scalar.muli arg1 c16_i32_15
  let v33 : BitVec 32 := Scalar.addi v32 c0_i32_16
  let v43 : Index := Scalar.indexCast v33
  let c0_27 : Index := 0#32
  ![v43.toNat, 0]
def k0_cond2 (i : grid0.Coords) : BitVec 1 :=
  let arg1 : BitVec 32 := BitVec.ofNat 32 (i 1).val
  let c3_i32_368 : BitVec 32 := 3#32
  let v720 : BitVec 1 := Scalar.cmpi .eq arg1 c3_i32_368
  let v721 : BitVec 32 := Scalar.extui v720
  let c0_i32_369 : BitVec 32 := 0#32
  let v722 : BitVec 1 := Scalar.cmpi .ne v721 c0_i32_369
  v722

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S768x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S256x16x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x1 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S512x256 : Shape := ⟨2, ![512, 256]⟩
abbrev S512x64x256 : Shape := ⟨3, ![512, 64, 256]⟩
abbrev S512 : Shape := ⟨1, ![512]⟩
abbrev S256x256 : Shape := ⟨2, ![256, 256]⟩
abbrev S256 : Shape := ⟨1, ![256]⟩
abbrev S1x256 : Shape := ⟨2, ![1, 256]⟩
abbrev S1 : Shape := ⟨1, ![1]⟩
abbrev S64x256 : Shape := ⟨2, ![64, 256]⟩
abbrev S2048x256 : Shape := ⟨2, ![2048, 256]⟩
abbrev S2048x512 : Shape := ⟨2, ![2048, 512]⟩
abbrev S2048 : Shape := ⟨1, ![2048]⟩
abbrev S256x1 : Shape := ⟨2, ![256, 1]⟩
abbrev S512x1 : Shape := ⟨2, ![512, 1]⟩
abbrev S1x1 : Shape := ⟨2, ![1, 1]⟩
abbrev S_ : Shape := ⟨0, ![]⟩
abbrev S512x1x1 : Shape := ⟨3, ![512, 1, 1]⟩
abbrev S512x2 : Shape := ⟨2, ![512, 2]⟩
abbrev S1x64x256 : Shape := ⟨3, ![1, 64, 256]⟩
abbrev S512x512 : Shape := ⟨2, ![512, 512]⟩
abbrev S64x512x256 : Shape := ⟨3, ![64, 512, 256]⟩
abbrev S1x512x256 : Shape := ⟨3, ![1, 512, 256]⟩
abbrev S256x2048 : Shape := ⟨2, ![256, 2048]⟩
abbrev S512x2048 : Shape := ⟨2, ![512, 2048]⟩
abbrev S1x2048 : Shape := ⟨2, ![1, 2048]⟩

abbrev nBuf : Space → Nat
  | .hbm => 150
  | .vmem => 0
  | .smem => 0
  | _ => 0

abbrev hbmTy0_0 (i : Nat) : BufTy := match i % 128 with
  | 0 => ⟨S512x256, .f32⟩
  | 1 => ⟨S512x64x256, .f32⟩
  | 2 => ⟨S512, .i32⟩
  | 3 => ⟨S256x256, .f32⟩
  | 4 => ⟨S256, .f32⟩
  | 5 => ⟨S1x256, .f32⟩
  | 6 => ⟨S1, .f32⟩
  | 7 => ⟨S64x256, .f32⟩
  | 8 => ⟨S2048x256, .f32⟩
  | 9 => ⟨S2048x512, .f32⟩
  | 10 => ⟨S2048, .f32⟩
  | 11 => ⟨S2048, .f32⟩
  | 12 => ⟨S256x1, .f32⟩
  | 13 => ⟨S512x1, .f32⟩
  | 14 => ⟨S1x1, .f32⟩
  | 15 => ⟨S512x1, .f32⟩
  | 16 => ⟨S512x1, .f32⟩
  | 17 => ⟨S512x1, .f32⟩
  | 18 => ⟨S512x1, .f32⟩
  | 19 => ⟨S_, .f32⟩
  | 20 => ⟨S512x1, .f32⟩
  | 21 => ⟨S512x1, .f32⟩
  | 22 => ⟨S_, .f32⟩
  | 23 => ⟨S512x1, .f32⟩
  | 24 => ⟨S512x1, .f32⟩
  | 25 => ⟨S_, .f32⟩
  | 26 => ⟨S512x1, .f32⟩
  | 27 => ⟨S512x1, .i1⟩
  | 28 => ⟨S512x1x1, .i1⟩
  | 29 => ⟨S256x256, .f32⟩
  | 30 => ⟨S512x256, .f32⟩
  | 31 => ⟨S1x256, .f32⟩
  | 32 => ⟨S512x256, .f32⟩
  | 33 => ⟨S512x256, .f32⟩
  | 34 => ⟨S512, .i32⟩
  | 35 => ⟨S_, .i32⟩
  | 36 => ⟨S512, .i32⟩
  | 37 => ⟨S512, .i1⟩
  | 38 => ⟨S_, .i32⟩
  | 39 => ⟨S512, .i32⟩
  | 40 => ⟨S512, .i32⟩
  | 41 => ⟨S512, .i32⟩
  | 42 => ⟨S_, .i32⟩
  | 43 => ⟨S512, .i32⟩
  | 44 => ⟨S512, .i1⟩
  | 45 => ⟨S_, .i32⟩
  | 46 => ⟨S512, .i32⟩
  | 47 => ⟨S512, .i32⟩
  | 48 => ⟨S512, .i32⟩
  | 49 => ⟨S512x1, .i32⟩
  | 50 => ⟨S512x1, .i32⟩
  | 51 => ⟨S512x2, .i32⟩
  | 52 => ⟨S512x64x256, .f32⟩
  | 53 => ⟨S512x64x256, .i1⟩
  | 54 => ⟨S512x64x256, .f32⟩
  | 55 => ⟨S512, .i1⟩
  | 56 => ⟨S512, .i32⟩
  | 57 => ⟨S512, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S512, .i32⟩
  | 65 => ⟨S512, .i32⟩
  | 66 => ⟨S_, .i32⟩
  | 67 => ⟨S512, .i32⟩
  | 68 => ⟨S512, .i1⟩
  | 69 => ⟨S_, .i32⟩
  | 70 => ⟨S512, .i32⟩
  | 71 => ⟨S512, .i1⟩
  | 72 => ⟨S_, .i32⟩
  | 73 => ⟨S_, .i1⟩
  | 74 => ⟨S512, .i1⟩
  | 75 => ⟨S512, .i1⟩
  | 76 => ⟨S512, .i1⟩
  | 77 => ⟨S512, .i32⟩
  | 78 => ⟨S512, .i32⟩
  | 79 => ⟨S512, .i32⟩
  | 80 => ⟨S1x64x256, .f32⟩
  | 81 => ⟨S512x64x256, .f32⟩
  | 82 => ⟨S512x64x256, .f32⟩
  | 83 => ⟨S_, .f32⟩
  | 84 => ⟨S512x512, .f32⟩
  | 85 => ⟨S_, .f32⟩
  | 86 => ⟨S512x512, .f32⟩
  | 87 => ⟨S64x512x256, .f32⟩
  | 88 => ⟨S_, .i32⟩
  | 89 => ⟨S64x512x256, .f32⟩
  | 90 => ⟨S2048x256, .f32⟩
  | 91 => ⟨S2048, .f32⟩
  | 92 => ⟨S2048x512, .f32⟩
  | 93 => ⟨S2048, .f32⟩
  | 94 => ⟨S_, .i32⟩
  | 95 => ⟨S512x512, .f32⟩
  | 96 => ⟨S512x512, .f32⟩
  | 97 => ⟨S_, .i32⟩
  | 98 => ⟨S_, .i1⟩
  | 99 => ⟨S_, .i32⟩
  | 100 => ⟨S_, .i32⟩
  | 101 => ⟨S1x512x256, .f32⟩
  | 102 => ⟨S512x256, .f32⟩
  | 103 => ⟨S256x2048, .f32⟩
  | 104 => ⟨S512x2048, .f32⟩
  | 105 => ⟨S1x2048, .f32⟩
  | 106 => ⟨S512x2048, .f32⟩
  | 107 => ⟨S512x2048, .f32⟩
  | 108 => ⟨S512x2048, .f32⟩
  | 109 => ⟨S512x2048, .f32⟩
  | 110 => ⟨S512x2048, .f32⟩
  | 111 => ⟨S1x2048, .f32⟩
  | 112 => ⟨S512x2048, .f32⟩
  | 113 => ⟨S512x2048, .f32⟩
  | 114 => ⟨S512x512, .f32⟩
  | 115 => ⟨S512x512, .f32⟩
  | 116 => ⟨S512x512, .f32⟩
  | 117 => ⟨S512x512, .f32⟩
  | 118 => ⟨S512x512, .f32⟩
  | 119 => ⟨S512x512, .f32⟩
  | 120 => ⟨S_, .f32⟩
  | 121 => ⟨S512x512, .f32⟩
  | 122 => ⟨S512x512, .f32⟩
  | 123 => ⟨S_, .f32⟩
  | 124 => ⟨S512x512, .f32⟩
  | 125 => ⟨S512x512, .f32⟩
  | 126 => ⟨S512x512, .f32⟩
  | 127 => ⟨S512x512, .f32⟩
  | _ => ⟨S512x256, .f32⟩

abbrev hbmTy0_1 (i : Nat) : BufTy := match i % 128 with
  | 0 => ⟨S_, .f32⟩
  | 1 => ⟨S512x512, .f32⟩
  | 2 => ⟨S512x512, .f32⟩
  | 3 => ⟨S_, .f32⟩
  | 4 => ⟨S512x512, .f32⟩
  | 5 => ⟨S512x512, .f32⟩
  | 6 => ⟨S512x512, .f32⟩
  | 7 => ⟨S512x512, .f32⟩
  | 8 => ⟨S512x512, .f32⟩
  | 9 => ⟨S_, .f32⟩
  | 10 => ⟨S512x512, .f32⟩
  | 11 => ⟨S512x512, .f32⟩
  | 12 => ⟨S_, .f32⟩
  | 13 => ⟨S512x512, .f32⟩
  | 14 => ⟨S512x512, .f32⟩
  | 15 => ⟨S512x512, .f32⟩
  | 16 => ⟨S512x512, .f32⟩
  | 17 => ⟨S512x512, .f32⟩
  | 18 => ⟨S512x512, .f32⟩
  | 19 => ⟨S512x512, .f32⟩
  | 20 => ⟨S_, .i32⟩
  | 21 => ⟨S_, .i32⟩
  | _ => ⟨S512x256, .f32⟩

abbrev hbmTy (i : Nat) : BufTy := match i / 128 with
  | 0 => hbmTy0_0 i
  | 1 => hbmTy0_1 i
  | _ => ⟨S512x256, .f32⟩

abbrev bufTy : (tb : Table) → Fin (tcTables nBuf tb) → BufTy
  | .hbm, ⟨i, _⟩ => hbmTy i
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c : Ref sig .tc := ⟨.hbm, 35, rfl⟩
abbrev main_v20 : Ref sig .tc := ⟨.hbm, 36, rfl⟩
abbrev main_v21 : Ref sig .tc := ⟨.hbm, 37, rfl⟩
abbrev main_c_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_3 : Ref sig .tc := ⟨.hbm, 42, rfl⟩
abbrev main_v25 : Ref sig .tc := ⟨.hbm, 43, rfl⟩
abbrev main_v26 : Ref sig .tc := ⟨.hbm, 44, rfl⟩
abbrev main_c_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call0_v0 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_5 : Ref sig .tc := ⟨.hbm, 58, rfl⟩
abbrev main_call1_v0 : Ref sig .tc := ⟨.hbm, 59, rfl⟩
abbrev main_call1_c : Ref sig .tc := ⟨.hbm, 60, rfl⟩
abbrev main_call1_v1 : Ref sig .tc := ⟨.hbm, 61, rfl⟩
abbrev main_call1_c_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_c_1 : Ref sig .tc := ⟨.hbm, 66, rfl⟩
abbrev main_call1_v5 : Ref sig .tc := ⟨.hbm, 67, rfl⟩
abbrev main_call1_v6 : Ref sig .tc := ⟨.hbm, 68, rfl⟩
abbrev main_call1_c_2 : Ref sig .tc := ⟨.hbm, 69, rfl⟩
abbrev main_call1_v7 : Ref sig .tc := ⟨.hbm, 70, rfl⟩
abbrev main_call1_v8 : Ref sig .tc := ⟨.hbm, 71, rfl⟩
abbrev main_call1_c_3 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_v12 : Ref sig .tc := ⟨.hbm, 76, rfl⟩
abbrev main_call1_v13 : Ref sig .tc := ⟨.hbm, 77, rfl⟩
abbrev main_call1_v14 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_cst_6 : Ref sig .tc := ⟨.hbm, 83, rfl⟩
abbrev main_v42 : Ref sig .tc := ⟨.hbm, 84, rfl⟩
abbrev main_cst_7 : Ref sig .tc := ⟨.hbm, 85, rfl⟩
abbrev main_v43 : Ref sig .tc := ⟨.hbm, 86, rfl⟩
abbrev main_v44 : Ref sig .tc := ⟨.hbm, 87, rfl⟩
abbrev main_c_8 : Ref sig .tc := ⟨.hbm, 88, rfl⟩
abbrev main_v45_0 : Ref sig .tc := ⟨.hbm, 89, rfl⟩
abbrev main_v45_1 : Ref sig .tc := ⟨.hbm, 90, rfl⟩
abbrev main_v45_2 : Ref sig .tc := ⟨.hbm, 91, rfl⟩
abbrev main_v45_3 : Ref sig .tc := ⟨.hbm, 92, rfl⟩
abbrev main_v45_4 : Ref sig .tc := ⟨.hbm, 93, rfl⟩
abbrev main_v45_5 : Ref sig .tc := ⟨.hbm, 94, rfl⟩
abbrev main_v45_6 : Ref sig .tc := ⟨.hbm, 95, rfl⟩
abbrev main_v45_7 : Ref sig .tc := ⟨.hbm, 96, rfl⟩
abbrev main_while0c_c_16 : Ref sig .tc := ⟨.hbm, 97, rfl⟩
abbrev main_while0c_v46 : Ref sig .tc := ⟨.hbm, 98, rfl⟩
abbrev main_while0b_call2_c : Ref sig .tc := ⟨.hbm, 99, rfl⟩
abbrev main_while0b_call2_c_0 : Ref sig .tc := ⟨.hbm, 100, rfl⟩
abbrev main_while0b_call2_v0 : Ref sig .tc := ⟨.hbm, 101, rfl⟩
abbrev main_while0b_v46 : Ref sig .tc := ⟨.hbm, 102, rfl⟩
abbrev main_while0b_v47 : Ref sig .tc := ⟨.hbm, 103, rfl⟩
abbrev main_while0b_v48 : Ref sig .tc := ⟨.hbm, 104, rfl⟩
abbrev main_while0b_v49 : Ref sig .tc := ⟨.hbm, 105, rfl⟩
abbrev main_while0b_v50 : Ref sig .tc := ⟨.hbm, 106, rfl⟩
abbrev main_while0b_v51 : Ref sig .tc := ⟨.hbm, 107, rfl⟩
abbrev main_while0b_v52 : Ref sig .tc := ⟨.hbm, 108, rfl⟩
abbrev main_while0b_v53 : Ref sig .tc := ⟨.hbm, 109, rfl⟩
abbrev main_while0b_v54 : Ref sig .tc := ⟨.hbm, 110, rfl⟩
abbrev main_while0b_v55 : Ref sig .tc := ⟨.hbm, 111, rfl⟩
abbrev main_while0b_v56 : Ref sig .tc := ⟨.hbm, 112, rfl⟩
abbrev main_while0b_v57 : Ref sig .tc := ⟨.hbm, 113, rfl⟩
abbrev main_while0b_v58 : Ref sig .tc := ⟨.hbm, 114, rfl⟩
abbrev main_while0b_v59 : Ref sig .tc := ⟨.hbm, 115, rfl⟩
abbrev main_while0b_v60 : Ref sig .tc := ⟨.hbm, 116, rfl⟩
abbrev main_while0b_v61 : Ref sig .tc := ⟨.hbm, 117, rfl⟩
abbrev main_while0b_v62 : Ref sig .tc := ⟨.hbm, 118, rfl⟩
abbrev main_while0b_v63 : Ref sig .tc := ⟨.hbm, 119, rfl⟩
abbrev main_while0b_cst_16 : Ref sig .tc := ⟨.hbm, 120, rfl⟩
abbrev main_while0b_v64 : Ref sig .tc := ⟨.hbm, 121, rfl⟩
abbrev main_while0b_v65 : Ref sig .tc := ⟨.hbm, 122, rfl⟩
abbrev main_while0b_cst_17 : Ref sig .tc := ⟨.hbm, 123, rfl⟩
abbrev main_while0b_v66 : Ref sig .tc := ⟨.hbm, 124, rfl⟩
abbrev main_while0b_v67 : Ref sig .tc := ⟨.hbm, 125, rfl⟩
abbrev main_while0b_v68 : Ref sig .tc := ⟨.hbm, 126, rfl⟩
abbrev main_while0b_v69 : Ref sig .tc := ⟨.hbm, 127, rfl⟩
abbrev main_while0b_cst_18 : Ref sig .tc := ⟨.hbm, 128, rfl⟩
abbrev main_while0b_v70 : Ref sig .tc := ⟨.hbm, 129, rfl⟩
abbrev main_while0b_v71 : Ref sig .tc := ⟨.hbm, 130, rfl⟩
abbrev main_while0b_cst_19 : Ref sig .tc := ⟨.hbm, 131, rfl⟩
abbrev main_while0b_v72 : Ref sig .tc := ⟨.hbm, 132, rfl⟩
abbrev main_while0b_v73 : Ref sig .tc := ⟨.hbm, 133, rfl⟩
abbrev main_while0b_v74 : Ref sig .tc := ⟨.hbm, 134, rfl⟩
abbrev main_while0b_v75 : Ref sig .tc := ⟨.hbm, 135, rfl⟩
abbrev main_while0b_v76 : Ref sig .tc := ⟨.hbm, 136, rfl⟩
abbrev main_while0b_cst_20 : Ref sig .tc := ⟨.hbm, 137, rfl⟩
abbrev main_while0b_v77 : Ref sig .tc := ⟨.hbm, 138, rfl⟩
abbrev main_while0b_v78 : Ref sig .tc := ⟨.hbm, 139, rfl⟩
abbrev main_while0b_cst_21 : Ref sig .tc := ⟨.hbm, 140, rfl⟩
abbrev main_while0b_v79 : Ref sig .tc := ⟨.hbm, 141, rfl⟩
abbrev main_while0b_v80 : Ref sig .tc := ⟨.hbm, 142, rfl⟩
abbrev main_while0b_v81 : Ref sig .tc := ⟨.hbm, 143, rfl⟩
abbrev main_while0b_v82 : Ref sig .tc := ⟨.hbm, 144, rfl⟩
abbrev main_while0b_v83 : Ref sig .tc := ⟨.hbm, 145, rfl⟩
abbrev main_while0b_v84 : Ref sig .tc := ⟨.hbm, 146, rfl⟩
abbrev main_while0b_v85 : Ref sig .tc := ⟨.hbm, 147, rfl⟩
abbrev main_while0b_c_22 : Ref sig .tc := ⟨.hbm, 148, rfl⟩
abbrev main_while0b_v86 : Ref sig .tc := ⟨.hbm, 149, rfl⟩

abbrev nD : Nat := 1
abbrev τ : Topo := Topo.v7x

variable {F : FTy → Type} [FloatOps F]

abbrev main_while0_count : Scf.Loop 32 := ⟨0#32, 64#32, 1#32⟩
-- ==== Proof.Steps.lean ====
/- The sixteen recurrent steps of one grid point as one program repeated. -/
module

public import proofs.«01_k».proof.Proof.Gen.KernelIdeal.Frame
public import proofs.«01_k».proof.Proof.Gen.KernelIdeal.Skeleton
public import Idealize.ShloMosaic.Lib.ValueIdx
public import Idealize.ShloMosaic.Lib.WholeRead

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-- One step's input beside the hidden state: columns 0 to 255 are `x`, columns 256 to 767 are `h`. -/
def cat (x : Vec F S256x256 .bf16) (h : Vec F S256x512 .bf16) : Vec F S256x768 .bf16 := fun y =>
  if hy : (y 1).val < 256 then x (ix2 (y 0) ⟨(y 1).val, hy⟩)
  else h (ix2 (y 0) ⟨(y 1).val - 256, by have : (y 1).val < 768 := (y 1).isLt; omega⟩)

/-- Where step `k`'s rows of the transposed input lie in the scratch of a grid point. -/
theorem xt_inb (k : Fin 16) : ∀ a, (![k.val, 0, 0] : Fin 3 → Nat) a + S1x256x256.size a ≤ S16x256x256.size a := by
  revert k; decide

/-- Step `k`'s rows of the transposed input. -/
abbrev xtRect (k : Fin 16) : Rect S16x256x256 := Rect.unit (s := S16x256x256) ![k.val, 0, 0] S1x256x256.size (xt_inb k)

/-- Step `k`'s row of the positional gates at grid point `i`. -/
abbrev pgRect (i : grid0.Coords) (k : Fin 16) : Rect S64x2048 :=
  Rect.unit (s := S64x2048) (k0_off1 i (BitVec.ofNat 32 k.val)) S1x2048.size (k0_off1_inb i k)

/-- One of the 16 recurrent steps of a grid point: it puts the step's input beside the hidden state, computes the
    gates, and updates the cell state and the hidden state. It gives the new hidden state. -/
def stepP (i : grid0.Coords) (arg10 : Memref sig .tc .vmem S768x2048 .bf16) (arg17 : Memref sig .tc .vmem S256x768 .bf16) (harg17 : arg17.IsWhole)
    (arg18 : Memref sig .tc .vmem S256x512 .f32) (arg19 : Memref sig .tc .vmem S64x2048 .f32) (arg20 : Memref sig .tc .vmem S16x256x256 .bf16) (k : Fin 16) :
    Prog (TpuEff nD τ sig (Elt F) Λ₀ .tc) (FVec F S256x512 .f32) := do
  let vx : Vec F S1x256x256 .bf16 ← Prog.lift (.load arg20 (xtRect k).toLoadRect (View.loadsAt_vmem h_S1x256x256))
  let _ : Vec F S256x256 .bf16 ← Prog.lift (.load arg17 (Rect.unit (s := S256x768) ![0, 0] S256x256.size inb_S256x768_S256x256_0_0).toLoadRect (View.loadsAt_vmem h_S256x256))
  Prog.lift (.store arg17 (Rect.unit (s := S256x768) ![0, 0] S256x256.size inb_S256x768_S256x256_0_0) (k0_pay10 vx) Finset.univ (View.stores_vmem h_S256x256 (harg17.storeExact_slice rfl _ packedbf16_S256x768_S256x256_0_0) (fun _ => rfl)) (.inl rfl))
  let v : Vec F S256x768 .bf16 ← Prog.lift (.load arg17 (Rect.unit (s := S256x768) ![0, 0] S256x768.size inb_S256x768_S256x768_0_0).toLoadRect (View.loadsAt_vmem h_S256x768))
  let w : Vec F S768x2048 .bf16 ← Prog.lift (.load arg10 (Rect.unit (s := S768x2048) ![0, 0] S768x2048.size inb_S768x2048_S768x2048_0_0).toLoadRect (View.loadsAt_vmem h_S768x2048))
  let p : Vec F S1x2048 .f32 ← Prog.lift (.load arg19 (pgRect i k).toLoadRect (View.loadsAt_vmem h_S1x2048))
  let c : Vec F S256x512 .f32 ← Prog.lift (.load arg18 (Rect.unit (s := S256x512) ![0, 0] S256x512.size inb_S256x512_S256x512_0_0).toLoadRect (View.loadsAt_vmem h_S256x512))
  let _ : Vec F S256x512 .f32 ← Prog.lift (.load arg18 (Rect.unit (s := S256x512) ![0, 0] S256x512.size inb_S256x512_S256x512_0_0).toLoadRect (View.loadsAt_vmem h_S256x512))
  Prog.lift (.store arg18 (Rect.unit (s := S256x512) ![0, 0] S256x512.size inb_S256x512_S256x512_0_0) (k0_pay13 v w p c) Finset.univ (View.stores_vmem_bits_univ h_S256x512 rfl) (.inl rfl))
  let _ : Vec F S256x512 .bf16 ← Prog.lift (.load arg17 (Rect.unit (s := S256x768) ![0, 256] S256x512.size inb_S256x768_S256x512_0_256).toLoadRect (View.loadsAt_vmem h_S256x512))
  Prog.lift (.store arg17 (Rect.unit (s := S256x768) ![0, 256] S256x512.size inb_S256x768_S256x512_0_256) (k0_pay15 (k0_pay14 v w p c)) Finset.univ (View.stores_vmem h_S256x512 (harg17.storeExact_slice rfl _ packedbf16_S256x768_S256x512_0_256) (fun _ => rfl)) (.inl rfl))
  pure (k0_pay112 (k0_pay108 v w p) (k0_pay109 v w p) c)

/-- The steps of a list, in order, and then step 15. -/
def stepsP (i : grid0.Coords) (arg10 : Memref sig .tc .vmem S768x2048 .bf16) (arg17 : Memref sig .tc .vmem S256x768 .bf16) (harg17 : arg17.IsWhole)
    (arg18 : Memref sig .tc .vmem S256x512 .f32) (arg19 : Memref sig .tc .vmem S64x2048 .f32) (arg20 : Memref sig .tc .vmem S16x256x256 .bf16) :
    List (Fin 16) → Prog (TpuEff nD τ sig (Elt F) Λ₀ .tc) (FVec F S256x512 .f32)
  | [] => stepP i arg10 arg17 harg17 arg18 arg19 arg20 15
  | k :: ks => stepP i arg10 arg17 harg17 arg18 arg19 arg20 k >>= fun _ => stepsP i arg10 arg17 harg17 arg18 arg19 arg20 ks

/-- Steps 0 to 14. -/
abbrev stepList : List (Fin 16) := [0, 1, 2, 3, 4, 5, 6, 7, 8, 9, 10, 11, 12, 13, 14]

/-- The body up to its last condition is the prologue followed by the sixteen steps. -/
theorem part21_eq (i : grid0.Coords) (arg2 : Memref sig .tc .vmem S256x256 .f32) (harg2 : arg2.IsWhole) (arg3 : Memref sig .tc .vmem S256x16x256 .f32) (harg3 : arg3.IsWhole) (arg4 : Memref sig .tc .vmem S256x1 .i32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S64x256 .f32) (harg9 : arg9.IsWhole) (arg10 : Memref sig .tc .vmem S768x2048 .bf16) (harg10 : arg10.IsWhole) (arg11 : Memref sig .tc .vmem S1x2048 .f32) (harg11 : arg11.IsWhole) (arg12 : Memref sig .tc .vmem S256x512 .f32) (harg12 : arg12.IsWhole) (arg13 : Memref sig .tc .vmem S256x16x256 .f32) (harg13 : arg13.IsWhole) (arg14 : Memref sig .tc .vmem S256x1 .i32) (harg14 : arg14.IsWhole) (arg15 : Memref sig .tc .vmem S256x256 .f32) (harg15 : arg15.IsWhole) (arg16 : Memref sig .tc .vmem S256x1 .f32) (harg16 : arg16.IsWhole) (arg17 : Memref sig .tc .vmem S256x768 .bf16) (harg17 : arg17.IsWhole) (arg18 : Memref sig .tc .vmem S256x512 .f32) (harg18 : arg18.IsWhole) (arg19 : Memref sig .tc .vmem S64x2048 .f32) (harg19 : arg19.IsWhole) (arg20 : Memref sig .tc .vmem S16x256x256 .bf16) (harg20 : arg20.IsWhole) :
    k0_part21 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 = k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 >>= fun _ => stepsP i arg10 arg17 harg17 arg18 arg19 arg20 stepList := by
  rw [k0_part21_eq_skeleton]; unfold k0_part21_skel
  refine congrArg (Bind.bind _) (funext fun p => ?_)
  with_unfolding_all rfl

end Cert.KernelIdeal.Hand

end
-- ==== Proof.StepRun.lean ====
/- What one recurrent step leaves in the buffers. -/
module

public import proofs.«01_k».proof.Proof.Steps

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-- The hidden state (as the kernel keeps it beside the input) and the cell state. -/
structure HC (F : FTy → Type) where
  h : Vec F S256x512 .bf16
  c : Vec F S256x512 .f32

/-- Step `k`'s rows of the transposed input `xt`. -/
def xtRow (xt : Vec F S16x256x256 .bf16) (k : Fin 16) : Vec F S1x256x256 .bf16 := fun x => xt ((xtRect k).emb x)

/-- Step `k`'s row of the positional gates `pg` at grid point `i`. -/
def pgRow (i : grid0.Coords) (pg : Vec F S64x2048 .f32) (k : Fin 16) : Vec F S1x2048 .f32 := fun x => pg ((pgRect i k).emb x)

/-- What one step makes of the state: the gates are computed from the step's input and the hidden state. -/
def HC.next (i : grid0.Coords) (w : Vec F S768x2048 .bf16) (pg : Vec F S64x2048 .f32) (xt : Vec F S16x256x256 .bf16) (s : HC F) (k : Fin 16) : HC F :=
  ⟨k0_pay15 (k0_pay14 (cat (k0_pay10 (xtRow xt k)) s.h) w (pgRow i pg k) s.c), k0_pay13 (cat (k0_pay10 (xtRow xt k)) s.h) w (pgRow i pg k) s.c⟩

/-- The new hidden state of a step, before it is rounded for the next step. -/
def HC.out (i : grid0.Coords) (w : Vec F S768x2048 .bf16) (pg : Vec F S64x2048 .f32) (xt : Vec F S16x256x256 .bf16) (s : HC F) (k : Fin 16) : FVec F S256x512 .f32 :=
  k0_pay112 (k0_pay108 (cat (k0_pay10 (xtRow xt k)) s.h) w (pgRow i pg k)) (k0_pay109 (cat (k0_pay10 (xtRow xt k)) s.h) w (pgRow i pg k)) s.c

/-- A load of the whole of a buffer reads its contents. -/
theorem readAt_full {κ : Kind} {sp : Space} {s : Shape} {e : EltTy} {M : Memref sig κ sp s e} (h : M.IsWhole) (X : s.Idx → Elt F e)
    (off : Fin s.rank → ℕ) (inb : ∀ a, off a + s.size a ≤ s.size a) :
    M.view.readAt (Elt F) (Rect.unit (s := s) off s.size inb).toLoadRect (h.unread X) = X := by
  funext x
  rw [h.readAt_unread]
  congr 1
  exact (Rect.unit (s := s) off s.size inb).emb_eq_of_coords x x fun a => by
    have := inb a
    show (x a).val = off a + 1 * (x a).val
    omega

/-- A load of one step's row of the positional gates. -/
theorem readAt_pg {M : Memref sig .tc .vmem S64x2048 .f32} (h : M.IsWhole) (X : Vec F S64x2048 .f32) (i : grid0.Coords) (k : Fin 16) :
    M.view.readAt (Elt F) (pgRect i k).toLoadRect (h.unread X) = pgRow i X k :=
  funext fun x => h.readAt_unread X (pgRect i k).toLoadRect x

/-- A load of one step's rows of the transposed input. -/
theorem readAt_xt {M : Memref sig .tc .vmem S16x256x256 .bf16} (h : M.IsWhole) (X : Vec F S16x256x256 .bf16) (k : Fin 16) :
    M.view.readAt (Elt F) (xtRect k).toLoadRect (h.unread X) = xtRow X k :=
  funext fun x => h.readAt_unread X (xtRect k).toLoadRect x

/-- A buffer whose last store was of the whole of it reads what was stored. -/
theorem read_full {κ : Kind} {sp : Space} {s : Shape} {e : EltTy} (v : View sig κ sp s e) (f : v.ty.Contents (Elt F))
    (off : Fin s.rank → ℕ) (inb : ∀ a, off a + s.size a ≤ s.size a) (x : s.Idx → Elt F e) (L : List (View.Piece (Elt F) s e)) :
    v.read (Elt F) (v.writes (Elt F) f (⟨Rect.unit (s := s) off s.size inb, x⟩ :: L)) = x := by
  funext y
  exact View.read_writes_cons_hit_of_coords v f (Rect.unit (s := s) off s.size inb) x L y y fun a => by
    have := inb a
    show (y a).val = off a + 1 * (y a).val
    omega

/-- After its first 256 columns were stored, the buffer holds the stored input beside the hidden state. -/
theorem read_left (arg17 : Memref sig .tc .vmem S256x768 .bf16) (harg17 : arg17.IsWhole) (x x' : Vec F S256x256 .bf16) (h : Vec F S256x512 .bf16) :
    arg17.view.read (Elt F) (arg17.view.writes (Elt F) (harg17.unread (cat x h)) [⟨Rect.unit (s := S256x768) ![0, 0] S256x256.size inb_S256x768_S256x256_0_0, x'⟩]) = cat x' h := by
  funext y
  by_cases hy : (y 1).val < 256
  · rw [View.read_writes_cons_hit_of_coords _ _ (Rect.unit (s := S256x768) ![0, 0] S256x256.size inb_S256x768_S256x256_0_0) x' [] (ix2 (y 0) ⟨(y 1).val, hy⟩) y
      (fun a => by fin_cases a <;> simp [ix2])]
    unfold cat; rw [dif_pos hy]
  · rw [View.read_writes_cons_miss_of_axis _ _ _ [] y 1 0 256 rfl rfl rfl (Or.inr (by omega)), View.writes_nil, harg17.read_unread]
    unfold cat; rw [dif_neg hy, dif_neg hy]

/-- A whole load after it reads the stored input beside the hidden state. -/
theorem readAt_left (arg17 : Memref sig .tc .vmem S256x768 .bf16) (harg17 : arg17.IsWhole) (x x' : Vec F S256x256 .bf16) (h : Vec F S256x512 .bf16) :
    arg17.view.readAt (Elt F) (Rect.unit (s := S256x768) ![0, 0] S256x768.size inb_S256x768_S256x768_0_0).toLoadRect
      (arg17.view.writes (Elt F) (harg17.unread (cat x h)) [⟨Rect.unit (s := S256x768) ![0, 0] S256x256.size inb_S256x768_S256x256_0_0, x'⟩]) = cat x' h := by
  rw [harg17.eq_unread (read_left arg17 harg17 x x' h)]
  exact readAt_full harg17 _ _ _

/-- Storing the last 512 columns as well replaces the hidden state. -/
theorem read_right (arg17 : Memref sig .tc .vmem S256x768 .bf16) (harg17 : arg17.IsWhole) (x x' : Vec F S256x256 .bf16) (h h' : Vec F S256x512 .bf16) :
    arg17.view.read (Elt F) (arg17.view.writes (Elt F) (harg17.unread (cat x h)) [⟨Rect.unit (s := S256x768) ![0, 256] S256x512.size inb_S256x768_S256x512_0_256, h'⟩,
      ⟨Rect.unit (s := S256x768) ![0, 0] S256x256.size inb_S256x768_S256x256_0_0, x'⟩]) = cat x' h' := by
  funext y
  by_cases hy : (y 1).val < 256
  · rw [View.read_writes_cons_miss_of_axis _ _ _ _ y 1 256 512 rfl rfl rfl (Or.inl hy), read_left]
    unfold cat; rw [dif_pos hy, dif_pos hy]
  · have h7 : (y 1).val < 768 := (y 1).isLt
    rw [View.read_writes_cons_hit_of_coords _ _ (Rect.unit (s := S256x768) ![0, 256] S256x512.size inb_S256x768_S256x512_0_256) h' _ (ix2 (y 0) ⟨(y 1).val - 256, by omega⟩) y
      (fun a => by fin_cases a <;> simp [ix2]; omega)]
    unfold cat; rw [dif_neg hy]

set_option maxHeartbeats 800000 in
/-- One step: it leaves the next state. -/
theorem step_run (c : Dev nD) (i : grid0.Coords) (arg10 : Memref sig .tc .vmem S768x2048 .bf16) (harg10 : arg10.IsWhole) (arg17 : Memref sig .tc .vmem S256x768 .bf16) (harg17 : arg17.IsWhole)
    (arg18 : Memref sig .tc .vmem S256x512 .f32) (harg18 : arg18.IsWhole) (arg19 : Memref sig .tc .vmem S64x2048 .f32) (harg19 : arg19.IsWhole)
    (arg20 : Memref sig .tc .vmem S16x256x256 .bf16) (harg20 : arg20.IsWhole) (k : Fin 16)
    (w : Vec F S768x2048 .bf16) (pg : Vec F S64x2048 .f32) (xt : Vec F S16x256x256 .bf16) (s : HC F) (E : Set ℕ) (K : FVec F S256x512 .f32 → sProp 𝕄) :
    iprop(owns (c : Thread nD τ) arg10 fullShare w ∗ (∃ x, owns (c : Thread nD τ) arg17 fullShare (cat x s.h)) ∗ owns (c : Thread nD τ) arg18 fullShare s.c
        ∗ owns (c : Thread nD τ) arg19 fullShare pg ∗ owns (c : Thread nD τ) arg20 fullShare xt
        ∗ (iprop(owns (c : Thread nD τ) arg10 fullShare w ∗ (∃ x, owns (c : Thread nD τ) arg17 fullShare (cat x (s.next i w pg xt k).h)) ∗ owns (c : Thread nD τ) arg18 fullShare (s.next i w pg xt k).c
            ∗ owns (c : Thread nD τ) arg19 fullShare pg ∗ owns (c : Thread nD τ) arg20 fullShare xt) -∗ K (s.out i w pg xt k)))
      ⊢ wp frame (wpE (defs₀ (F := F)) Variants.none c none) E (stepP i arg10 arg17 harg17 arg18 arg19 arg20 k) K := by
  unfold HC.out HC.next stepP owns
  iintro ⟨⟨%f0, %hf0, H0⟩, ⟨%x, %f1, %hf1, H1⟩, ⟨%f2, %hf2, H2⟩, ⟨%f3, %hf3, H3⟩, ⟨%f4, %hf4, H4⟩, Hk⟩
  obtain rfl := harg10.eq_unread hf0; obtain rfl := harg17.eq_unread hf1; obtain rfl := harg18.eq_unread hf2; obtain rfl := harg19.eq_unread hf3; obtain rfl := harg20.eq_unread hf4
  sl_exec
  unfold step_run.sl.H1_1
  rw [readAt_left, readAt_full harg10, readAt_full harg18, readAt_pg harg19, readAt_xt harg20]
  sl_step
  iapply Hk
  isplitl [H0]
  · iexists _; isplitr; · ipureintro; exact hf0
    iexact H0
  isplitl [H1]
  · iexists (k0_pay10 (xtRow xt k)); iexists _; isplitr; · ipureintro; exact read_right arg17 harg17 x (k0_pay10 (xtRow xt k)) s.h _
    iexact H1
  isplitl [H2]
  · iexists _; isplitr; rotate_left; · iexact H2
    ipureintro; exact read_full _ _ _ _ _ _
  isplitl [H3]
  · iexists _; isplitr; · ipureintro; exact hf3
    iexact H3
  iexists _; isplitr; · ipureintro; exact hf4
  iexact H4

/-- The state after the steps of a list. -/
def HC.nexts (i : grid0.Coords) (w : Vec F S768x2048 .bf16) (pg : Vec F S64x2048 .f32) (xt : Vec F S16x256x256 .bf16) (s : HC F) : List (Fin 16) → HC F
  | [] => s
  | k :: ks => HC.nexts i w pg xt (s.next i w pg xt k) ks

/-- The steps of a list and then step 15: they leave the state after all of them. -/
theorem steps_run (c : Dev nD) (i : grid0.Coords) (arg10 : Memref sig .tc .vmem S768x2048 .bf16) (harg10 : arg10.IsWhole) (arg17 : Memref sig .tc .vmem S256x768 .bf16) (harg17 : arg17.IsWhole)
    (arg18 : Memref sig .tc .vmem S256x512 .f32) (harg18 : arg18.IsWhole) (arg19 : Memref sig .tc .vmem S64x2048 .f32) (harg19 : arg19.IsWhole)
    (arg20 : Memref sig .tc .vmem S16x256x256 .bf16) (harg20 : arg20.IsWhole)
    (w : Vec F S768x2048 .bf16) (pg : Vec F S64x2048 .f32) (xt : Vec F S16x256x256 .bf16) (E : Set ℕ) (K : FVec F S256x512 .f32 → sProp 𝕄) : ∀ (ks : List (Fin 16)) (s : HC F),
    iprop(owns (c : Thread nD τ) arg10 fullShare w ∗ (∃ x, owns (c : Thread nD τ) arg17 fullShare (cat x s.h)) ∗ owns (c : Thread nD τ) arg18 fullShare s.c
        ∗ owns (c : Thread nD τ) arg19 fullShare pg ∗ owns (c : Thread nD τ) arg20 fullShare xt
        ∗ (iprop(owns (c : Thread nD τ) arg10 fullShare w ∗ (∃ x, owns (c : Thread nD τ) arg17 fullShare (cat x ((s.nexts i w pg xt ks).next i w pg xt 15).h))
            ∗ owns (c : Thread nD τ) arg18 fullShare ((s.nexts i w pg xt ks).next i w pg xt 15).c
            ∗ owns (c : Thread nD τ) arg19 fullShare pg ∗ owns (c : Thread nD τ) arg20 fullShare xt) -∗ K ((s.nexts i w pg xt ks).out i w pg xt 15)))
      ⊢ wp frame (wpE (defs₀ (F := F)) Variants.none c none) E (stepsP i arg10 arg17 harg17 arg18 arg19 arg20 ks) K
  | [], s => step_run c i arg10 harg10 arg17 harg17 arg18 harg18 arg19 harg19 arg20 harg20 15 w pg xt s E K
  | k :: ks, s => by
    have ih := steps_run c i arg10 harg10 arg17 harg17 arg18 harg18 arg19 harg19 arg20 harg20 w pg xt E K ks (s.next i w pg xt k)
    show _ ⊢ wp frame (wpE (defs₀ (F := F)) Variants.none c none) E (stepP i arg10 arg17 harg17 arg18 arg19 arg20 k >>= fun _ => stepsP i arg10 arg17 harg17 arg18 arg19 arg20 ks) K
    rw [wp_bind]
    refine .trans ?_ (step_run c i arg10 harg10 arg17 harg17 arg18 harg18 arg19 harg19 arg20 harg20 k w pg xt s E _)
    iintro ⟨H0, H1, H2, H3, H4, Hk⟩
    isplitl [H0]; · iexact H0
    isplitl [H1]; · iexact H1
    isplitl [H2]; · iexact H2
    isplitl [H3]; · iexact H3
    isplitl [H4]; · iexact H4
    iintro ⟨H0, H1, H2, H3, H4⟩
    iapply ih
    isplitl [H0]; · iexact H0
    isplitl [H1]; · iexact H1
    isplitl [H2]; · iexact H2
    isplitl [H3]; · iexact H3
    isplitl [H4]; · iexact H4
    iexact Hk

end Cert.KernelIdeal.Hand

end
-- ==== Proof.Prologue.lean ====
/- What the first part of a grid point leaves in the buffers. -/
module

public import proofs.«01_k».proof.Proof.StepRun
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-- A buffer whose last store was of the whole of it is owned at what was stored. -/
theorem owns_full (c : Dev nD) {sp : Space} {s : Shape} {e : EltTy} (M : Memref sig .tc sp s e) (f : M.view.ty.Contents (Elt F))
    (off : Fin s.rank → ℕ) (inb : ∀ a, off a + s.size a ≤ s.size a) (x : s.Idx → Elt F e) (L : List (View.Piece (Elt F) s e)) :
    (M.view.loc (c : Thread nD τ) ↦[M.view.set]{fullShare} M.view.writes (Elt F) f (⟨Rect.unit (s := s) off s.size inb, x⟩ :: L) : sProp 𝕄)
      ⊢ owns (c : Thread nD τ) M fullShare x := by
  unfold owns; iintro H; iexists _; isplitr; rotate_left; · iexact H
  ipureintro; exact read_full _ _ _ _ _ _

/-- A buffer at the contents that read `x` is owned at `x`. -/
theorem owns_unread (c : Dev nD) {sp : Space} {s : Shape} {e : EltTy} (M : Memref sig .tc sp s e) (h : M.IsWhole) (x : s.Idx → Elt F e) :
    (M.view.loc (c : Thread nD τ) ↦[M.view.set]{fullShare} h.unread x : sProp 𝕄) ⊢ owns (c : Thread nD τ) M fullShare x := by
  unfold owns; iintro H; iexists _; isplitr; rotate_left; · iexact H
  ipureintro; exact h.read_unread _

/-- What a block of 256 rows computes once: the memory update `v`, the event mask `e`, and the positional gates `pg`. -/
structure Once (F : FTy → Type) where
  v : Vec F S256x256 .f32
  e : Vec F S256x1 .f32
  pg : Vec F S64x2048 .f32

/-- The rows of the joined weights that the positional embedding meets. -/
abbrev topRect : Rect S768x2048 := Rect.unit (s := S768x2048) ![0, 0] S256x2048.size inb_S768x2048_S256x2048_0_0

/-- Those rows. -/
def topRows (w : Vec F S768x2048 .bf16) : Vec F S256x2048 .bf16 := fun x => w (topRect.emb x)

/-- A load of those rows. -/
theorem readAt_top {M : Memref sig .tc .vmem S768x2048 .bf16} (h : M.IsWhole) (X : Vec F S768x2048 .bf16) :
    M.view.readAt (Elt F) topRect.toLoadRect (h.unread X) = topRows X :=
  funext fun x => h.readAt_unread X topRect.toLoadRect x

/-- What the first grid point of a block of rows computes once for the block. -/
def once (x0 : Vec F S256x256 .f32) (x1 : Vec F S256x16x256 .f32) (x2 : Vec F S256x1 .i32) (x3 : Vec F S256x256 .f32) (x4 : Vec F S1x256 .f32) (x5 : Vec F S1x256 .f32) (x6 : Vec F S1x1 .f32) (x7 : Vec F S64x256 .f32) (x8 : Vec F S768x2048 .bf16) (x9 : Vec F S1x2048 .f32) : Once F := ⟨k0_pay3 x0 x3 x4, k0_pay2 x0 x5 x6, k0_pay7 x9 x7 (topRows x8)⟩

/-- The hidden and the cell state at the start of a block of rows. -/
def HC.init : HC F := ⟨fun y => (k0_pay5 (F := F)) (ix2 (y 0) ⟨(y 1).val + 256, by have : (y 1).val < 512 := (y 1).isLt; omega⟩), k0_pay6⟩

/-- The input buffer's initial contents hold the initial hidden state. -/
theorem pay5_eq : (k0_pay5 : Vec F S256x768 .bf16) = cat (fun y => (k0_pay5 (F := F)) (ix2 (y 0) ⟨(y 1).val, by have : (y 1).val < 256 := (y 1).isLt; omega⟩)) HC.init.h := by
  funext y
  have h7 : (y 1).val < 768 := (y 1).isLt
  unfold cat HC.init
  split
  · exact congrArg _ (eq_ix2 y)
  · show k0_pay5 (F := F) y = k0_pay5 (F := F) (ix2 (y 0) ⟨(y 1).val - 256 + 256, by omega⟩)
    refine congrArg (k0_pay5 (F := F)) (funext fun a => ?_)
    fin_cases a
    · rfl
    · apply Fin.ext
      show (y 1).val = (y 1).val - 256 + 256
      omega

set_option maxHeartbeats 1600000 in
/-- The prologue at the first grid point of a block of rows. -/
theorem prologue_first (c : Dev nD) (i : grid0.Coords) (arg2 : Memref sig .tc .vmem S256x256 .f32) (harg2 : arg2.IsWhole) (arg3 : Memref sig .tc .vmem S256x16x256 .f32) (harg3 : arg3.IsWhole) (arg4 : Memref sig .tc .vmem S256x1 .i32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S64x256 .f32) (harg9 : arg9.IsWhole) (arg10 : Memref sig .tc .vmem S768x2048 .bf16) (harg10 : arg10.IsWhole) (arg11 : Memref sig .tc .vmem S1x2048 .f32) (harg11 : arg11.IsWhole) (arg12 : Memref sig .tc .vmem S256x512 .f32) (harg12 : arg12.IsWhole) (arg13 : Memref sig .tc .vmem S256x16x256 .f32) (harg13 : arg13.IsWhole) (arg14 : Memref sig .tc .vmem S256x1 .i32) (harg14 : arg14.IsWhole) (arg15 : Memref sig .tc .vmem S256x256 .f32) (harg15 : arg15.IsWhole) (arg16 : Memref sig .tc .vmem S256x1 .f32) (harg16 : arg16.IsWhole) (arg17 : Memref sig .tc .vmem S256x768 .bf16) (harg17 : arg17.IsWhole) (arg18 : Memref sig .tc .vmem S256x512 .f32) (harg18 : arg18.IsWhole) (arg19 : Memref sig .tc .vmem S64x2048 .f32) (harg19 : arg19.IsWhole) (arg20 : Memref sig .tc .vmem S16x256x256 .bf16) (harg20 : arg20.IsWhole) (x0 : Vec F S256x256 .f32) (x1 : Vec F S256x16x256 .f32) (x2 : Vec F S256x1 .i32) (x3 : Vec F S256x256 .f32) (x4 : Vec F S1x256 .f32) (x5 : Vec F S1x256 .f32) (x6 : Vec F S1x1 .f32) (x7 : Vec F S64x256 .f32) (x8 : Vec F S768x2048 .bf16) (x9 : Vec F S1x2048 .f32) (hc : k0_cond1 i = 1#1) (E : Set ℕ) (K Q : sProp 𝕄)
    (hQ : Q = iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
          ∗ owns (c : Thread nD τ) arg13 fullShare (k0_pay8 i x2 (once x0 x1 x2 x3 x4 x5 x6 x7 x8 x9).e (once x0 x1 x2 x3 x4 x5 x6 x7 x8 x9).v x1) ∗ owns (c : Thread nD τ) arg14 fullShare (k0_pay4 x0 x5 x6 x2)
          ∗ owns (c : Thread nD τ) arg15 fullShare (once x0 x1 x2 x3 x4 x5 x6 x7 x8 x9).v ∗ owns (c : Thread nD τ) arg16 fullShare (once x0 x1 x2 x3 x4 x5 x6 x7 x8 x9).e ∗ (∃ x, owns (c : Thread nD τ) arg17 fullShare (cat x HC.init.h)) ∗ owns (c : Thread nD τ) arg18 fullShare HC.init.c
          ∗ owns (c : Thread nD τ) arg19 fullShare (once x0 x1 x2 x3 x4 x5 x6 x7 x8 x9).pg ∗ owns (c : Thread nD τ) arg20 fullShare (k0_pay9 i x2 (once x0 x1 x2 x3 x4 x5 x6 x7 x8 x9).e (once x0 x1 x2 x3 x4 x5 x6 x7 x8 x9).v x1) -∗ K)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
        ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ Q)
      ⊢ wp frame (wpE (defs₀ (F := F)) Variants.none c none) E (k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) (fun _ => K) := by
  rw [k0_part2_eq_skeleton]; unfold k0_part2_skel
  rw [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
  sl_exec (disch := sl_exact hc)
  unfold prologue_first.sl.v12 prologue_first.sl.v18 prologue_first.sl.H16_1 prologue_first.sl.H15_1
  rw [View.readCov_full arg16.view, View.readCov_full arg15.view, readAt_full harg2, readAt_full harg3, readAt_full harg4, readAt_full harg5, readAt_full harg6, readAt_full harg7, readAt_full harg8, readAt_full harg9, readAt_full harg11, readAt_top harg10, pay5_eq]
  subst hQ
  sl_step
  iapply Hk
  isplitl [H2]; · iapply owns_unread $$ H2
  isplitl [H3]; · iapply owns_unread $$ H3
  isplitl [H4]; · iapply owns_unread $$ H4
  isplitl [H5]; · iapply owns_unread $$ H5
  isplitl [H6]; · iapply owns_unread $$ H6
  isplitl [H7]; · iapply owns_unread $$ H7
  isplitl [H8]; · iapply owns_unread $$ H8
  isplitl [H9]; · iapply owns_unread $$ H9
  isplitl [H10]; · iapply owns_unread $$ H10
  isplitl [H11]; · iapply owns_unread $$ H11
  isplitl [H13]; · iapply owns_full $$ H13
  isplitl [H14]; · iapply owns_full $$ H14
  isplitl [H15]; · iapply owns_full $$ H15
  isplitl [H16]; · iapply owns_full $$ H16
  isplitl [H17]; · iexists _; iapply owns_full $$ H17
  isplitl [H18]; · iapply owns_full $$ H18
  isplitl [H19]; · iapply owns_full $$ H19
  iapply owns_full $$ H20

set_option maxHeartbeats 1600000 in
/-- The prologue at a later grid point of a block of rows. -/
theorem prologue_next (c : Dev nD) (i : grid0.Coords) (arg2 : Memref sig .tc .vmem S256x256 .f32) (harg2 : arg2.IsWhole) (arg3 : Memref sig .tc .vmem S256x16x256 .f32) (harg3 : arg3.IsWhole) (arg4 : Memref sig .tc .vmem S256x1 .i32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S64x256 .f32) (harg9 : arg9.IsWhole) (arg10 : Memref sig .tc .vmem S768x2048 .bf16) (harg10 : arg10.IsWhole) (arg11 : Memref sig .tc .vmem S1x2048 .f32) (harg11 : arg11.IsWhole) (arg12 : Memref sig .tc .vmem S256x512 .f32) (harg12 : arg12.IsWhole) (arg13 : Memref sig .tc .vmem S256x16x256 .f32) (harg13 : arg13.IsWhole) (arg14 : Memref sig .tc .vmem S256x1 .i32) (harg14 : arg14.IsWhole) (arg15 : Memref sig .tc .vmem S256x256 .f32) (harg15 : arg15.IsWhole) (arg16 : Memref sig .tc .vmem S256x1 .f32) (harg16 : arg16.IsWhole) (arg17 : Memref sig .tc .vmem S256x768 .bf16) (harg17 : arg17.IsWhole) (arg18 : Memref sig .tc .vmem S256x512 .f32) (harg18 : arg18.IsWhole) (arg19 : Memref sig .tc .vmem S64x2048 .f32) (harg19 : arg19.IsWhole) (arg20 : Memref sig .tc .vmem S16x256x256 .bf16) (harg20 : arg20.IsWhole) (x1 : Vec F S256x16x256 .f32) (x2 : Vec F S256x1 .i32) (o : Once F) (hc : ¬ k0_cond1 i = 1#1) (E : Set ℕ) (K Q : sProp 𝕄)
    (hQ : Q = iprop(owns (c : Thread nD τ) arg3 fullShare x1 ∗ owns (c : Thread nD τ) arg4 fullShare x2 ∗ owns (c : Thread nD τ) arg15 fullShare o.v ∗ owns (c : Thread nD τ) arg16 fullShare o.e ∗ owns (c : Thread nD τ) arg13 fullShare (k0_pay8 i x2 o.e o.v x1) ∗ owns (c : Thread nD τ) arg20 fullShare (k0_pay9 i x2 o.e o.v x1) -∗ K)) :
    iprop(owns (c : Thread nD τ) arg3 fullShare x1 ∗ owns (c : Thread nD τ) arg4 fullShare x2 ∗ owns (c : Thread nD τ) arg15 fullShare o.v ∗ owns (c : Thread nD τ) arg16 fullShare o.e ∗ (∃ d, owns (c : Thread nD τ) arg13 fullShare d) ∗ (∃ d, owns (c : Thread nD τ) arg20 fullShare d) ∗ Q)
      ⊢ wp frame (wpE (defs₀ (F := F)) Variants.none c none) E (k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) (fun _ => K) := by
  rw [k0_part2_eq_skeleton]; unfold k0_part2_skel
  unfold owns
  iintro ⟨⟨%f3, %hf3, H3⟩, ⟨%f4, %hf4, H4⟩, ⟨%f15, %hf15, H15⟩, ⟨%f16, %hf16, H16⟩, ⟨%d13, %f13, -, H13⟩, ⟨%d20, %f20, -, H20⟩, Hk⟩
  obtain rfl := harg3.eq_unread hf3; obtain rfl := harg4.eq_unread hf4; obtain rfl := harg15.eq_unread hf15; obtain rfl := harg16.eq_unread hf16
  sl_exec (disch := sl_exact hc)
  rw [readAt_full harg3, readAt_full harg4, readAt_full harg15, readAt_full harg16]
  subst hQ
  sl_step
  iapply Hk
  isplitl [H3]; · iapply owns_unread $$ H3
  isplitl [H4]; · iapply owns_unread $$ H4
  isplitl [H15]; · iapply owns_unread $$ H15
  isplitl [H16]; · iapply owns_unread $$ H16
  isplitl [H13]; · iapply owns_full $$ H13
  iapply owns_full $$ H20

end Cert.KernelIdeal.Hand

end
-- ==== Proof.Body.lean ====
/- What the kernel's body leaves in the buffers at one grid point. -/
module

public import proofs.«01_k».proof.Proof.Prologue

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-- The last condition of a grid point: at the last grid point of a block of rows the hidden state is stored. -/
def epi (i : grid0.Coords) (arg12 : Memref sig .tc .vmem S256x512 .f32) (h : FVec F S256x512 .f32) : Prog (TpuEff nD τ sig (Elt F) Λ₀ .tc) PUnit := do
  if k0_h2 : k0_cond2 i = 1#1 then do
    let _ : Vec F S256x512 .f32 ← Prog.lift (.load arg12 (Rect.unit (s := S256x512) ![0, 0] S256x512.size inb_S256x512_S256x512_0_0).toLoadRect (View.loadsAt_vmem h_S256x512))
    Prog.lift (.store arg12 (Rect.unit (s := S256x512) ![0, 0] S256x512.size inb_S256x512_S256x512_0_0) h Finset.univ (View.stores_vmem_bits_univ h_S256x512 rfl) (.inl rfl))
    pure ⟨⟩
  else do
    pure ⟨⟩
  pure ⟨⟩

/-- The kernel's body is the prologue, the sixteen steps, and the last condition. -/
theorem body_eq (i : grid0.Coords) (arg2 : Memref sig .tc .vmem S256x256 .f32) (harg2 : arg2.IsWhole) (arg3 : Memref sig .tc .vmem S256x16x256 .f32) (harg3 : arg3.IsWhole) (arg4 : Memref sig .tc .vmem S256x1 .i32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S64x256 .f32) (harg9 : arg9.IsWhole) (arg10 : Memref sig .tc .vmem S768x2048 .bf16) (harg10 : arg10.IsWhole) (arg11 : Memref sig .tc .vmem S1x2048 .f32) (harg11 : arg11.IsWhole) (arg12 : Memref sig .tc .vmem S256x512 .f32) (harg12 : arg12.IsWhole) (arg13 : Memref sig .tc .vmem S256x16x256 .f32) (harg13 : arg13.IsWhole) (arg14 : Memref sig .tc .vmem S256x1 .i32) (harg14 : arg14.IsWhole) (arg15 : Memref sig .tc .vmem S256x256 .f32) (harg15 : arg15.IsWhole) (arg16 : Memref sig .tc .vmem S256x1 .f32) (harg16 : arg16.IsWhole) (arg17 : Memref sig .tc .vmem S256x768 .bf16) (harg17 : arg17.IsWhole) (arg18 : Memref sig .tc .vmem S256x512 .f32) (harg18 : arg18.IsWhole) (arg19 : Memref sig .tc .vmem S64x2048 .f32) (harg19 : arg19.IsWhole) (arg20 : Memref sig .tc .vmem S16x256x256 .bf16) (harg20 : arg20.IsWhole) :
    cc0__cell_kernel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
      = k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 >>= fun _ => (stepsP i arg10 arg17 harg17 arg18 arg19 arg20 stepList >>= fun h => epi i arg12 h) := by
  rw [cc0__cell_kernel_eq_skeleton]; unfold cc0__cell_kernel_skel
  rw [part21_eq, bind_assoc]; rfl

/-- The hidden and the cell state after the sixteen steps of grid point `i`, from those before it. -/
def HC.after (i : grid0.Coords) (w : Vec F S768x2048 .bf16) (pg : Vec F S64x2048 .f32) (xt : Vec F S16x256x256 .bf16) (s : HC F) : HC F :=
  (s.nexts i w pg xt stepList).next i w pg xt 15

/-- The hidden state that grid point `i` ends with, before it is rounded. -/
def HC.last (i : grid0.Coords) (w : Vec F S768x2048 .bf16) (pg : Vec F S64x2048 .f32) (xt : Vec F S16x256x256 .bf16) (s : HC F) : FVec F S256x512 .f32 :=
  (s.nexts i w pg xt stepList).out i w pg xt 15

/-- The memory slots that grid point `i` stores: the row each pointer names is replaced where the event mask is set. -/
def Once.ns (i : grid0.Coords) (x1 : Vec F S256x16x256 .f32) (x2 : Vec F S256x1 .i32) (o : Once F) : Vec F S256x16x256 .f32 := k0_pay8 i x2 o.e o.v x1

/-- The same transposed for the recurrent steps. -/
def Once.xt (i : grid0.Coords) (x1 : Vec F S256x16x256 .f32) (x2 : Vec F S256x1 .i32) (o : Once F) : Vec F S16x256x256 .bf16 := k0_pay9 i x2 o.e o.v x1

/-- The sixteen steps and the last condition, at a grid point that is not the last of its block of rows. -/
theorem tail_mid (c : Dev nD) (i : grid0.Coords) (arg2 : Memref sig .tc .vmem S256x256 .f32) (harg2 : arg2.IsWhole) (arg3 : Memref sig .tc .vmem S256x16x256 .f32) (harg3 : arg3.IsWhole) (arg4 : Memref sig .tc .vmem S256x1 .i32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S64x256 .f32) (harg9 : arg9.IsWhole) (arg10 : Memref sig .tc .vmem S768x2048 .bf16) (harg10 : arg10.IsWhole) (arg11 : Memref sig .tc .vmem S1x2048 .f32) (harg11 : arg11.IsWhole) (arg12 : Memref sig .tc .vmem S256x512 .f32) (harg12 : arg12.IsWhole) (arg13 : Memref sig .tc .vmem S256x16x256 .f32) (harg13 : arg13.IsWhole) (arg14 : Memref sig .tc .vmem S256x1 .i32) (harg14 : arg14.IsWhole) (arg15 : Memref sig .tc .vmem S256x256 .f32) (harg15 : arg15.IsWhole) (arg16 : Memref sig .tc .vmem S256x1 .f32) (harg16 : arg16.IsWhole) (arg17 : Memref sig .tc .vmem S256x768 .bf16) (harg17 : arg17.IsWhole) (arg18 : Memref sig .tc .vmem S256x512 .f32) (harg18 : arg18.IsWhole) (arg19 : Memref sig .tc .vmem S64x2048 .f32) (harg19 : arg19.IsWhole) (arg20 : Memref sig .tc .vmem S16x256x256 .bf16) (harg20 : arg20.IsWhole) (hc : ¬ k0_cond2 i = 1#1) (x8 : Vec F S768x2048 .bf16) (pg : Vec F S64x2048 .f32) (xt : Vec F S16x256x256 .bf16) (s : HC F) (E : Set ℕ) (K : sProp 𝕄) :
    iprop(owns (c : Thread nD τ) arg10 fullShare x8 ∗ (∃ x, owns (c : Thread nD τ) arg17 fullShare (cat x s.h)) ∗ owns (c : Thread nD τ) arg18 fullShare s.c ∗ owns (c : Thread nD τ) arg19 fullShare pg ∗ owns (c : Thread nD τ) arg20 fullShare xt
        ∗ (iprop(owns (c : Thread nD τ) arg10 fullShare x8 ∗ (∃ x, owns (c : Thread nD τ) arg17 fullShare (cat x (s.after i x8 pg xt).h)) ∗ owns (c : Thread nD τ) arg18 fullShare (s.after i x8 pg xt).c ∗ owns (c : Thread nD τ) arg19 fullShare pg ∗ owns (c : Thread nD τ) arg20 fullShare xt) -∗ K))
      ⊢ wp frame (wpE (defs₀ (F := F)) Variants.none c none) E (stepsP i arg10 arg17 harg17 arg18 arg19 arg20 stepList >>= fun h => epi i arg12 h) (fun _ => K) := by
  rw [wp_bind]
  refine .trans ?_ (steps_run c i arg10 harg10 arg17 harg17 arg18 harg18 arg19 harg19 arg20 harg20 x8 pg xt E _ stepList s)
  iintro ⟨H10, H17, H18, H19, H20, Hk⟩
  isplitl [H10]; · iexact H10
  isplitl [H17]; · iexact H17
  isplitl [H18]; · iexact H18
  isplitl [H19]; · iexact H19
  isplitl [H20]; · iexact H20
  iintro ⟨H10, H17, H18, H19, H20⟩
  unfold epi
  sl_exec (disch := sl_exact hc)
  sl_step
  iapply Hk
  isplitl [H10]; · iexact H10
  isplitl [H17]; · iexact H17
  isplitl [H18]; · iexact H18
  isplitl [H19]; · iexact H19
  iexact H20

/-- The sixteen steps and the last condition, at the last grid point of a block of rows. -/
theorem tail_last (c : Dev nD) (i : grid0.Coords) (arg2 : Memref sig .tc .vmem S256x256 .f32) (harg2 : arg2.IsWhole) (arg3 : Memref sig .tc .vmem S256x16x256 .f32) (harg3 : arg3.IsWhole) (arg4 : Memref sig .tc .vmem S256x1 .i32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S64x256 .f32) (harg9 : arg9.IsWhole) (arg10 : Memref sig .tc .vmem S768x2048 .bf16) (harg10 : arg10.IsWhole) (arg11 : Memref sig .tc .vmem S1x2048 .f32) (harg11 : arg11.IsWhole) (arg12 : Memref sig .tc .vmem S256x512 .f32) (harg12 : arg12.IsWhole) (arg13 : Memref sig .tc .vmem S256x16x256 .f32) (harg13 : arg13.IsWhole) (arg14 : Memref sig .tc .vmem S256x1 .i32) (harg14 : arg14.IsWhole) (arg15 : Memref sig .tc .vmem S256x256 .f32) (harg15 : arg15.IsWhole) (arg16 : Memref sig .tc .vmem S256x1 .f32) (harg16 : arg16.IsWhole) (arg17 : Memref sig .tc .vmem S256x768 .bf16) (harg17 : arg17.IsWhole) (arg18 : Memref sig .tc .vmem S256x512 .f32) (harg18 : arg18.IsWhole) (arg19 : Memref sig .tc .vmem S64x2048 .f32) (harg19 : arg19.IsWhole) (arg20 : Memref sig .tc .vmem S16x256x256 .bf16) (harg20 : arg20.IsWhole) (hc : k0_cond2 i = 1#1) (x8 : Vec F S768x2048 .bf16) (pg : Vec F S64x2048 .f32) (xt : Vec F S16x256x256 .bf16) (s : HC F) (E : Set ℕ) (K : sProp 𝕄) :
    iprop(owns (c : Thread nD τ) arg10 fullShare x8 ∗ (∃ x, owns (c : Thread nD τ) arg17 fullShare (cat x s.h)) ∗ owns (c : Thread nD τ) arg18 fullShare s.c ∗ owns (c : Thread nD τ) arg19 fullShare pg ∗ owns (c : Thread nD τ) arg20 fullShare xt ∗ (∃ d, owns (c : Thread nD τ) arg12 fullShare d)
        ∗ (iprop(owns (c : Thread nD τ) arg10 fullShare x8 ∗ (∃ x, owns (c : Thread nD τ) arg17 fullShare (cat x (s.after i x8 pg xt).h)) ∗ owns (c : Thread nD τ) arg18 fullShare (s.after i x8 pg xt).c ∗ owns (c : Thread nD τ) arg19 fullShare pg ∗ owns (c : Thread nD τ) arg20 fullShare xt ∗ owns (c : Thread nD τ) arg12 fullShare (s.last i x8 pg xt)) -∗ K))
      ⊢ wp frame (wpE (defs₀ (F := F)) Variants.none c none) E (stepsP i arg10 arg17 harg17 arg18 arg19 arg20 stepList >>= fun h => epi i arg12 h) (fun _ => K) := by
  rw [wp_bind]
  refine .trans ?_ (steps_run c i arg10 harg10 arg17 harg17 arg18 harg18 arg19 harg19 arg20 harg20 x8 pg xt E _ stepList s)
  iintro ⟨H10, H17, H18, H19, H20, ⟨%d, H12⟩, Hk⟩
  isplitl [H10]; · iexact H10
  isplitl [H17]; · iexact H17
  isplitl [H18]; · iexact H18
  isplitl [H19]; · iexact H19
  isplitl [H20]; · iexact H20
  iintro ⟨H10, H17, H18, H19, H20⟩
  unfold epi HC.last
  unfold owns
  icases H12 with ⟨%f12, -, H12⟩
  sl_exec (disch := sl_exact hc)
  sl_step
  iapply Hk
  isplitl [H10]; · iexact H10
  isplitl [H17]; · iexact H17
  isplitl [H18]; · iexact H18
  isplitl [H19]; · iexact H19
  isplitl [H20]; · iexact H20
  iexists _; isplitr; rotate_left; · iexact H12
  ipureintro; exact read_full _ _ _ _ _ _

/-- What the kernel's body leaves at the first grid point of a block of rows. -/
theorem body_first (c : Dev nD) (i : grid0.Coords) (arg2 : Memref sig .tc .vmem S256x256 .f32) (harg2 : arg2.IsWhole) (arg3 : Memref sig .tc .vmem S256x16x256 .f32) (harg3 : arg3.IsWhole) (arg4 : Memref sig .tc .vmem S256x1 .i32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S64x256 .f32) (harg9 : arg9.IsWhole) (arg10 : Memref sig .tc .vmem S768x2048 .bf16) (harg10 : arg10.IsWhole) (arg11 : Memref sig .tc .vmem S1x2048 .f32) (harg11 : arg11.IsWhole) (arg12 : Memref sig .tc .vmem S256x512 .f32) (harg12 : arg12.IsWhole) (arg13 : Memref sig .tc .vmem S256x16x256 .f32) (harg13 : arg13.IsWhole) (arg14 : Memref sig .tc .vmem S256x1 .i32) (harg14 : arg14.IsWhole) (arg15 : Memref sig .tc .vmem S256x256 .f32) (harg15 : arg15.IsWhole) (arg16 : Memref sig .tc .vmem S256x1 .f32) (harg16 : arg16.IsWhole) (arg17 : Memref sig .tc .vmem S256x768 .bf16) (harg17 : arg17.IsWhole) (arg18 : Memref sig .tc .vmem S256x512 .f32) (harg18 : arg18.IsWhole) (arg19 : Memref sig .tc .vmem S64x2048 .f32) (harg19 : arg19.IsWhole) (arg20 : Memref sig .tc .vmem S16x256x256 .bf16) (harg20 : arg20.IsWhole) (x0 : Vec F S256x256 .f32) (x1 : Vec F S256x16x256 .f32) (x2 : Vec F S256x1 .i32) (x3 : Vec F S256x256 .f32) (x4 : Vec F S1x256 .f32) (x5 : Vec F S1x256 .f32) (x6 : Vec F S1x1 .f32) (x7 : Vec F S64x256 .f32) (x8 : Vec F S768x2048 .bf16) (x9 : Vec F S1x2048 .f32) (h1 : k0_cond1 i = 1#1) (h2 : ¬ k0_cond2 i = 1#1) (E : Set ℕ) (K : sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
        ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg13 fullShare ((once x0 x1 x2 x3 x4 x5 x6 x7 x8 x9).ns i x1 x2) ∗ owns (c : Thread nD τ) arg14 fullShare (k0_pay4 x0 x5 x6 x2) ∗ owns (c : Thread nD τ) arg15 fullShare (once x0 x1 x2 x3 x4 x5 x6 x7 x8 x9).v ∗ owns (c : Thread nD τ) arg16 fullShare (once x0 x1 x2 x3 x4 x5 x6 x7 x8 x9).e ∗ (∃ x, owns (c : Thread nD τ) arg17 fullShare (cat x (HC.init.after i x8 (once x0 x1 x2 x3 x4 x5 x6 x7 x8 x9).pg ((once x0 x1 x2 x3 x4 x5 x6 x7 x8 x9).xt i x1 x2)).h)) ∗ owns (c : Thread nD τ) arg18 fullShare (HC.init.after i x8 (once x0 x1 x2 x3 x4 x5 x6 x7 x8 x9).pg ((once x0 x1 x2 x3 x4 x5 x6 x7 x8 x9).xt i x1 x2)).c
            ∗ owns (c : Thread nD τ) arg19 fullShare (once x0 x1 x2 x3 x4 x5 x6 x7 x8 x9).pg ∗ owns (c : Thread nD τ) arg20 fullShare ((once x0 x1 x2 x3 x4 x5 x6 x7 x8 x9).xt i x1 x2)) -∗ K))
      ⊢ wp frame (wpE (defs₀ (F := F)) Variants.none c none) E (cc0__cell_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) (fun _ => K) := by
  rw [body_eq, wp_bind]
  refine .trans ?_ (prologue_first c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 h1 E _ _ rfl)
  iintro ⟨H2, H3, H4, H5, H6, H7, H8, H9, H10, H11, H13, H14, H15, H16, H17, H18, H19, H20, Hk⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iintro ⟨H2, H3, H4, H5, H6, H7, H8, H9, H10, H11, H13, H14, H15, H16, H17, H18, H19, H20⟩
  iapply tail_mid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h2
  isplitl [H10]; · iexact H10
  isplitl [H17]; · iexact H17
  isplitl [H18]; · iexact H18
  isplitl [H19]; · iexact H19
  isplitl [H20]; · iexact H20
  iintro ⟨H10, H17, H18, H19, H20⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- What the kernel's body leaves at a grid point that is neither the first nor the last of its block of rows. -/
theorem body_mid (c : Dev nD) (i : grid0.Coords) (arg2 : Memref sig .tc .vmem S256x256 .f32) (harg2 : arg2.IsWhole) (arg3 : Memref sig .tc .vmem S256x16x256 .f32) (harg3 : arg3.IsWhole) (arg4 : Memref sig .tc .vmem S256x1 .i32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S64x256 .f32) (harg9 : arg9.IsWhole) (arg10 : Memref sig .tc .vmem S768x2048 .bf16) (harg10 : arg10.IsWhole) (arg11 : Memref sig .tc .vmem S1x2048 .f32) (harg11 : arg11.IsWhole) (arg12 : Memref sig .tc .vmem S256x512 .f32) (harg12 : arg12.IsWhole) (arg13 : Memref sig .tc .vmem S256x16x256 .f32) (harg13 : arg13.IsWhole) (arg14 : Memref sig .tc .vmem S256x1 .i32) (harg14 : arg14.IsWhole) (arg15 : Memref sig .tc .vmem S256x256 .f32) (harg15 : arg15.IsWhole) (arg16 : Memref sig .tc .vmem S256x1 .f32) (harg16 : arg16.IsWhole) (arg17 : Memref sig .tc .vmem S256x768 .bf16) (harg17 : arg17.IsWhole) (arg18 : Memref sig .tc .vmem S256x512 .f32) (harg18 : arg18.IsWhole) (arg19 : Memref sig .tc .vmem S64x2048 .f32) (harg19 : arg19.IsWhole) (arg20 : Memref sig .tc .vmem S16x256x256 .bf16) (harg20 : arg20.IsWhole) (x0 : Vec F S256x256 .f32) (x1 : Vec F S256x16x256 .f32) (x2 : Vec F S256x1 .i32) (x3 : Vec F S256x256 .f32) (x4 : Vec F S1x256 .f32) (x5 : Vec F S1x256 .f32) (x6 : Vec F S1x1 .f32) (x7 : Vec F S64x256 .f32) (x8 : Vec F S768x2048 .bf16) (x9 : Vec F S1x2048 .f32) (o : Once F) (s : HC F) (h1 : ¬ k0_cond1 i = 1#1) (h2 : ¬ k0_cond2 i = 1#1) (E : Set ℕ) (K : sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
        ∗ (∃ d, owns (c : Thread nD τ) arg13 fullShare d) ∗ owns (c : Thread nD τ) arg15 fullShare o.v ∗ owns (c : Thread nD τ) arg16 fullShare o.e ∗ (∃ x, owns (c : Thread nD τ) arg17 fullShare (cat x s.h)) ∗ owns (c : Thread nD τ) arg18 fullShare s.c ∗ owns (c : Thread nD τ) arg19 fullShare o.pg ∗ (∃ d, owns (c : Thread nD τ) arg20 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg13 fullShare (o.ns i x1 x2) ∗ owns (c : Thread nD τ) arg15 fullShare o.v ∗ owns (c : Thread nD τ) arg16 fullShare o.e ∗ (∃ x, owns (c : Thread nD τ) arg17 fullShare (cat x (s.after i x8 o.pg (o.xt i x1 x2)).h)) ∗ owns (c : Thread nD τ) arg18 fullShare (s.after i x8 o.pg (o.xt i x1 x2)).c
            ∗ owns (c : Thread nD τ) arg19 fullShare o.pg ∗ owns (c : Thread nD τ) arg20 fullShare (o.xt i x1 x2)) -∗ K))
      ⊢ wp frame (wpE (defs₀ (F := F)) Variants.none c none) E (cc0__cell_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) (fun _ => K) := by
  rw [body_eq, wp_bind]
  refine .trans ?_ (prologue_next c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 o h1 E _ _ rfl)
  iintro ⟨H2, H3, H4, H5, H6, H7, H8, H9, H10, H11, H13, H15, H16, H17, H18, H19, H20, Hk⟩
  isplitl [H3]; · iexact H3
  isplitl [H4]; · iexact H4
  isplitl [H15]; · iexact H15
  isplitl [H16]; · iexact H16
  isplitl [H13]; · iexact H13
  isplitl [H20]; · iexact H20
  iintro ⟨H3, H4, H15, H16, H13, H20⟩
  iapply tail_mid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h2
  isplitl [H10]; · iexact H10
  isplitl [H17]; · iexact H17
  isplitl [H18]; · iexact H18
  isplitl [H19]; · iexact H19
  isplitl [H20]; · iexact H20
  iintro ⟨H10, H17, H18, H19, H20⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H13]; · iexact H13
  isplitl [H15]; · iexact H15
  isplitl [H16]; · iexact H16
  isplitl [H17]; · iexact H17
  isplitl [H18]; · iexact H18
  isplitl [H19]; · iexact H19
  iexact H20

/-- What the kernel's body leaves at the last grid point of a block of rows. -/
theorem body_last (c : Dev nD) (i : grid0.Coords) (arg2 : Memref sig .tc .vmem S256x256 .f32) (harg2 : arg2.IsWhole) (arg3 : Memref sig .tc .vmem S256x16x256 .f32) (harg3 : arg3.IsWhole) (arg4 : Memref sig .tc .vmem S256x1 .i32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S64x256 .f32) (harg9 : arg9.IsWhole) (arg10 : Memref sig .tc .vmem S768x2048 .bf16) (harg10 : arg10.IsWhole) (arg11 : Memref sig .tc .vmem S1x2048 .f32) (harg11 : arg11.IsWhole) (arg12 : Memref sig .tc .vmem S256x512 .f32) (harg12 : arg12.IsWhole) (arg13 : Memref sig .tc .vmem S256x16x256 .f32) (harg13 : arg13.IsWhole) (arg14 : Memref sig .tc .vmem S256x1 .i32) (harg14 : arg14.IsWhole) (arg15 : Memref sig .tc .vmem S256x256 .f32) (harg15 : arg15.IsWhole) (arg16 : Memref sig .tc .vmem S256x1 .f32) (harg16 : arg16.IsWhole) (arg17 : Memref sig .tc .vmem S256x768 .bf16) (harg17 : arg17.IsWhole) (arg18 : Memref sig .tc .vmem S256x512 .f32) (harg18 : arg18.IsWhole) (arg19 : Memref sig .tc .vmem S64x2048 .f32) (harg19 : arg19.IsWhole) (arg20 : Memref sig .tc .vmem S16x256x256 .bf16) (harg20 : arg20.IsWhole) (x0 : Vec F S256x256 .f32) (x1 : Vec F S256x16x256 .f32) (x2 : Vec F S256x1 .i32) (x3 : Vec F S256x256 .f32) (x4 : Vec F S1x256 .f32) (x5 : Vec F S1x256 .f32) (x6 : Vec F S1x1 .f32) (x7 : Vec F S64x256 .f32) (x8 : Vec F S768x2048 .bf16) (x9 : Vec F S1x2048 .f32) (o : Once F) (s : HC F) (h1 : ¬ k0_cond1 i = 1#1) (h2 : k0_cond2 i = 1#1) (E : Set ℕ) (K : sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d)
        ∗ (∃ d, owns (c : Thread nD τ) arg13 fullShare d) ∗ owns (c : Thread nD τ) arg15 fullShare o.v ∗ owns (c : Thread nD τ) arg16 fullShare o.e ∗ (∃ x, owns (c : Thread nD τ) arg17 fullShare (cat x s.h)) ∗ owns (c : Thread nD τ) arg18 fullShare s.c ∗ owns (c : Thread nD τ) arg19 fullShare o.pg ∗ (∃ d, owns (c : Thread nD τ) arg20 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (s.last i x8 o.pg (o.xt i x1 x2)) ∗ owns (c : Thread nD τ) arg13 fullShare (o.ns i x1 x2) ∗ owns (c : Thread nD τ) arg15 fullShare o.v ∗ owns (c : Thread nD τ) arg16 fullShare o.e ∗ (∃ x, owns (c : Thread nD τ) arg17 fullShare (cat x (s.after i x8 o.pg (o.xt i x1 x2)).h)) ∗ owns (c : Thread nD τ) arg18 fullShare (s.after i x8 o.pg (o.xt i x1 x2)).c
            ∗ owns (c : Thread nD τ) arg19 fullShare o.pg ∗ owns (c : Thread nD τ) arg20 fullShare (o.xt i x1 x2)) -∗ K))
      ⊢ wp frame (wpE (defs₀ (F := F)) Variants.none c none) E (cc0__cell_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) (fun _ => K) := by
  rw [body_eq, wp_bind]
  refine .trans ?_ (prologue_next c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 o h1 E _ _ rfl)
  iintro ⟨H2, H3, H4, H5, H6, H7, H8, H9, H10, H11, H12, H13, H15, H16, H17, H18, H19, H20, Hk⟩
  isplitl [H3]; · iexact H3
  isplitl [H4]; · iexact H4
  isplitl [H15]; · iexact H15
  isplitl [H16]; · iexact H16
  isplitl [H13]; · iexact H13
  isplitl [H20]; · iexact H20
  iintro ⟨H3, H4, H15, H16, H13, H20⟩
  iapply tail_last c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h2
  isplitl [H10]; · iexact H10
  isplitl [H17]; · iexact H17
  isplitl [H18]; · iexact H18
  isplitl [H19]; · iexact H19
  isplitl [H20]; · iexact H20
  isplitl [H12]; · iexact H12
  iintro ⟨H10, H17, H18, H19, H20, H12⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H15]; · iexact H15
  isplitl [H16]; · iexact H16
  isplitl [H17]; · iexact H17
  isplitl [H18]; · iexact H18
  isplitl [H19]; · iexact H19
  iexact H20

end Cert.KernelIdeal.Hand

end
-- ==== Proof.Region.lean ====
/- The kernel's region: the state the grid points hand on, the buffers' contents, and the run of the whole program. -/
module

public import proofs.«01_k».proof.Proof.Body
public import proofs.«01_k».proof.Proof.Gen.KernelIdeal.Frame
public import Idealize.ShloMosaic.Lib.Pipeline.TableIdle
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-! ## The grid's points -/

/-- The grid has eight points. -/
theorem lt8 (t : Fin cfg0.N) : t.val < 8 := lt_of_lt_of_eq t.isLt (show cfg0.N = 8 from N_0)

/-- The body's first condition holds at the first point of a block of rows, -/
theorem cond1_iff : ∀ t : Fin cfg0.N, k0_cond1 (grid0.coords t) = 1#1 ↔ t.val % 4 = 0 :=
  (fun t => by
    have ht : t.val < 8 := Nat.lt_of_lt_of_eq t.isLt N_0
    have e0 : (grid0.coords t 0).val = t.val / 4 % 2 := Pipeline.Grid.coords_val t 0 (by decide) rfl
    have e1 : (grid0.coords t 1).val = t.val / 1 % 4 := Pipeline.Grid.coords_val t 1 (by decide) rfl
    simp only [k0_cond1, e0, e1]
    word_cmp
   : ∀ t : Fin grid0.N, k0_cond1 (grid0.coords t) = 1#1 ↔ t.val % 4 = 0)

/-- and the second at the last. -/
theorem cond2_iff : ∀ t : Fin cfg0.N, k0_cond2 (grid0.coords t) = 1#1 ↔ t.val % 4 = 3 :=
  (fun t => by
    have ht : t.val < 8 := Nat.lt_of_lt_of_eq t.isLt N_0
    have e0 : (grid0.coords t 0).val = t.val / 4 % 2 := Pipeline.Grid.coords_val t 0 (by decide) rfl
    have e1 : (grid0.coords t 1).val = t.val / 1 % 4 := Pipeline.Grid.coords_val t 1 (by decide) rfl
    simp only [k0_cond2, e0, e1]
    word_cmp
   : ∀ t : Fin grid0.N, k0_cond2 (grid0.coords t) = 1#1 ↔ t.val % 4 = 3)

/-- The hidden state's buffer is stored at the last point of a block of rows only, -/
theorem idle10 : ∀ t : Fin cfg0.N, cfg0.idle 10 (grid0.coords t) = !decide (t.val % 4 = 3) := by decide +kernel
/-- the pointer's at the first only. -/
theorem idle12 : ∀ t : Fin cfg0.N, cfg0.idle 12 (grid0.coords t) = !decide (t.val % 4 = 0) := by decide +kernel
/-- The pointer's buffer holds nothing yet only at the first point of a block of rows. -/
theorem fresh12 : ∀ t : Fin cfg0.N, cfg0.fresh 12 t.val = decide (t.val % 4 = 0) := by decide +kernel

/-- A window that flushes at the last point of a half does not flush at the others. -/
theorem flush_no {w : Fin cfg0.W} {t : Fin cfg0.N} (h : (cfg0.win w).flush t = true ↔ t.val % 4 = 3) (h3 : ¬ t.val % 4 = 3) :
    (cfg0.win w).flush t = false := by
  rw [← Bool.not_eq_true, h]; exact h3

/-! ## The buffers the body works on -/

abbrev stg0 (t : Fin cfg0.N) : Memref sig .tc .vmem S256x256 .f32 := win0_0.stage (cfg0.slots t 0)
abbrev stg1 (t : Fin cfg0.N) : Memref sig .tc .vmem S256x16x256 .f32 := win0_1.stage (cfg0.slots t 1)
abbrev stg2 (t : Fin cfg0.N) : Memref sig .tc .vmem S256x1 .i32 := win0_2.stage (cfg0.slots t 2)
abbrev stg3 (t : Fin cfg0.N) : Memref sig .tc .vmem S256x256 .f32 := win0_3.stage (cfg0.slots t 3)
abbrev stg4 (t : Fin cfg0.N) : Memref sig .tc .vmem S1x256 .f32 := win0_4.stage (cfg0.slots t 4)
abbrev stg5 (t : Fin cfg0.N) : Memref sig .tc .vmem S1x256 .f32 := win0_5.stage (cfg0.slots t 5)
abbrev stg6 (t : Fin cfg0.N) : Memref sig .tc .vmem S1x1 .f32 := win0_6.stage (cfg0.slots t 6)
abbrev stg7 (t : Fin cfg0.N) : Memref sig .tc .vmem S64x256 .f32 := win0_7.stage (cfg0.slots t 7)
abbrev stg8 (t : Fin cfg0.N) : Memref sig .tc .vmem S768x2048 .bf16 := win0_8.stage (cfg0.slots t 8)
abbrev stg9 (t : Fin cfg0.N) : Memref sig .tc .vmem S1x2048 .f32 := win0_9.stage (cfg0.slots t 9)
abbrev stg10 (t : Fin cfg0.N) : Memref sig .tc .vmem S256x512 .f32 := win0_10.stage (cfg0.slots t 10)
abbrev stg11 (t : Fin cfg0.N) : Memref sig .tc .vmem S256x16x256 .f32 := win0_11.stage (cfg0.slots t 11)
abbrev stg12 (t : Fin cfg0.N) : Memref sig .tc .vmem S256x1 .i32 := win0_12.stage (cfg0.slots t 12)
abbrev scr0 : Memref sig .tc .vmem S256x256 .f32 := Memref.whole cc0_scratch0
abbrev scr1 : Memref sig .tc .vmem S256x1 .f32 := Memref.whole cc0_scratch1
abbrev scr2 : Memref sig .tc .vmem S256x768 .bf16 := Memref.whole cc0_scratch2
abbrev scr3 : Memref sig .tc .vmem S256x512 .f32 := Memref.whole cc0_scratch3
abbrev scr4 : Memref sig .tc .vmem S64x2048 .f32 := Memref.whole cc0_scratch4
abbrev scr5 : Memref sig .tc .vmem S16x256x256 .bf16 := Memref.whole cc0_scratch5

/-- What the launch hands the region, buffer by buffer. -/
theorem PhiA_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d)) ∗ (∃ r, prngReg c r)) := by
  unfold Pipeline.ΦA; rw [scopedRest0_eq]; simp only [scr0, scr1, scr2, scr3, scr4, scr5, owns_whole]; try rfl

variable (m : (ℓ : Loc nD τ sig) → Buf (Elt F) ℓ) (ρ : Dev nD → PrngReg)

/-! ## The state carried from point to point -/

/-- What the kernel keeps between the points of one block of rows: what it computed once, the recurrent state, and the next write positions. -/
structure Carry (F : FTy → Type) where
  o : Once F
  s : HC F
  np : Vec F S256x1 .i32

/-- The state the time steps start from at the first point of a block of rows. -/
def Carry.start (c : Dev nD) (t : Fin cfg0.N) : Carry F :=
  ⟨once (iblk m c 0 t) (iblk m c 1 t) (iblk m c 2 t) (iblk m c 3 t) (iblk m c 4 t) (iblk m c 5 t) (iblk m c 6 t) (iblk m c 7 t) (iblk m c 8 t) (iblk m c 9 t), HC.init, k0_pay4 (iblk m c 0 t) (iblk m c 5 t) (iblk m c 6 t) (iblk m c 2 t)⟩

/-- The state after a point's sixteen time steps. -/
def Carry.leave (c : Dev nD) (t : Fin cfg0.N) (e : Carry F) : Carry F :=
  ⟨e.o, e.s.after (grid0.coords t) (iblk m c 8 t) e.o.pg (e.o.xt (grid0.coords t) (iblk m c 1 t) (iblk m c 2 t)), e.np⟩

/-- The state a point's time steps start from. -/
def entry (c : Dev nD) : (n : ℕ) → n < cfg0.N → Carry F
  | 0, hn => .start m c ⟨0, hn⟩
  | n + 1, hn => if (n + 1) % 4 = 0 then .start m c ⟨n + 1, hn⟩ else .leave m c ⟨n, Nat.lt_of_succ_lt hn⟩ (entry c n (Nat.lt_of_succ_lt hn))

/-- The state after point `n`. -/
def exit (c : Dev nD) (n : ℕ) (hn : n < cfg0.N) : Carry F := .leave m c ⟨n, hn⟩ (entry m c n hn)

/-- The first point of a half starts afresh. -/
theorem entry_start (c : Dev nD) (t : Fin cfg0.N) (h : t.val % 4 = 0) : entry m c t.val t.isLt = .start m c t := by
  obtain ⟨n, hn⟩ := t
  cases n with
  | zero => rfl
  | succ n => exact if_pos h

/-- Any other point starts from what the one before left. -/
theorem entry_next (c : Dev nD) (t : Fin cfg0.N) (h : ¬ t.val % 4 = 0) : entry m c t.val t.isLt = exit m c (t.val - 1) (by omega) := by
  obtain ⟨n, hn⟩ := t
  cases n with
  | zero => exact absurd (Nat.zero_mod _) h
  | succ n => exact if_neg h

/-- The region's invariant: before the first point the scratch buffers hold anything, afterwards the state the point before left. -/
def Inv (c : Dev nD) : (n : ℕ) → n ≤ cfg0.N → sProp 𝕄
  | 0, _ => Pipeline.ΦA spec0 c
  | n + 1, hn => iprop(iprop(owns (c : Thread nD τ) scr0 fullShare (exit m c n hn).o.v ∗ owns (c : Thread nD τ) scr1 fullShare (exit m c n hn).o.e
      ∗ (∃ x, owns (c : Thread nD τ) scr2 fullShare (cat x (exit m c n hn).s.h)) ∗ owns (c : Thread nD τ) scr3 fullShare (exit m c n hn).s.c
      ∗ owns (c : Thread nD τ) scr4 fullShare (exit m c n hn).o.pg ∗ (∃ d, owns (c : Thread nD τ) scr5 fullShare d)) ∗ (∃ r, prngReg c r))

/-- The invariant after a grid point. -/
theorem Inv_succ (c : Dev nD) (n : ℕ) (hn : n < cfg0.N) :
    Inv m c (n + 1) hn = iprop(iprop(owns (c : Thread nD τ) scr0 fullShare (exit m c n hn).o.v ∗ owns (c : Thread nD τ) scr1 fullShare (exit m c n hn).o.e
      ∗ (∃ x, owns (c : Thread nD τ) scr2 fullShare (cat x (exit m c n hn).s.h)) ∗ owns (c : Thread nD τ) scr3 fullShare (exit m c n hn).s.c
      ∗ owns (c : Thread nD τ) scr4 fullShare (exit m c n hn).o.pg ∗ (∃ d, owns (c : Thread nD τ) scr5 fullShare d)) ∗ (∃ r, prngReg c r)) := rfl

/-- The invariant at a later point is that after the point before it. -/
theorem Inv_pos (c : Dev nD) (n : ℕ) (h : n ≤ cfg0.N) (hz : n ≠ 0) : Inv m c n h = Inv m c (n - 1 + 1) (by omega) := by
  cases n with
  | zero => exact absurd rfl hz
  | succ n => rfl

/-- The invariant at any point gives back what the launch handed over. -/
theorem Inv_out (c : Dev nD) (n : ℕ) (h : n ≤ cfg0.N) : Inv m c n h ⊢ Pipeline.ΦA spec0 c := by
  cases n with
  | zero => exact .rfl
  | succ n =>
    rw [Inv_succ, PhiA_eq]
    iintro ⟨⟨H0, H1, ⟨%x, H2⟩, H3, H4, H5⟩, Hg⟩
    isplitr [Hg]; swap; · iexact Hg
    isplitl [H0]; · iexists _; iexact H0
    isplitl [H1]; · iexists _; iexact H1
    isplitl [H2]; · iexists _; iexact H2
    isplitl [H3]; · iexists _; iexact H3
    isplitl [H4]; · iexists _; iexact H4
    iexact H5

/-- The proof data: the inputs' buffers keep their blocks, the outputs' hold what the state gives. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (entry m c t.val t.isLt).s.last (grid0.coords t) (iblk m c 8 t) (entry m c t.val t.isLt).o.pg ((entry m c t.val t.isLt).o.xt (grid0.coords t) (iblk m c 1 t) (iblk m c 2 t))
    | ⟨11, _⟩ => (entry m c t.val t.isLt).o.ns (grid0.coords t) (iblk m c 1 t) (iblk m c 2 t)
    | ⟨12, _⟩ => (entry m c t.val t.isLt).np
  Φ t := Inv m c t.val (Nat.le_of_lt_succ t.isLt)
  q _ := fullShare
  owed _ := 0

/-- The windows' arrays start as the host left them. -/
theorem A_eq (c : Dev nD) (w : Fin cfg0.W) : (dats m 0 c).A w = V m c (Pipeline.arrRef spec0 w) := by dsimp only [dats]

/-- What the launch holds before a grid point is the invariant there. -/
theorem Phi_castSucc (c : Dev nD) (t : Fin cfg0.N) : (dats m 0 c).Φ t.castSucc = Inv m c t.val (Nat.le_of_lt t.isLt) := by
  dsimp only [dats]; exact Pipeline.Dat.Φ_castSucc (Inv m c) t

/-- What each window holds after a grid point: the inputs their blocks, the results what the body stored. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = (entry m c t.val t.isLt).s.last (grid0.coords t) (iblk m c 8 t) (entry m c t.val t.isLt).o.pg ((entry m c t.val t.isLt).o.xt (grid0.coords t) (iblk m c 1 t) (iblk m c 2 t)) := by dsimp only [dats]
theorem after11 (c : Dev nD) (t : Fin cfg0.N) : (dats m 0 c).after 11 t = (entry m c t.val t.isLt).o.ns (grid0.coords t) (iblk m c 1 t) (iblk m c 2 t) := by dsimp only [dats]
theorem after12 (c : Dev nD) (t : Fin cfg0.N) : (dats m 0 c).after 12 t = (entry m c t.val t.isLt).np := by dsimp only [dats]

/-- Each input window holds its block before the body runs. -/
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d
theorem before7 (c : Dev nD) (t : Fin cfg0.N) (d) : (dats m 0 c).before 7 t d = iblk m c 7 t := before0_7_of m (dats m 0 c) (A_eq m c 7) (after7 m c) t d
theorem before8 (c : Dev nD) (t : Fin cfg0.N) (d) : (dats m 0 c).before 8 t d = iblk m c 8 t := before0_8_of m (dats m 0 c) (A_eq m c 8) (after8 m c) t d
theorem before9 (c : Dev nD) (t : Fin cfg0.N) (d) : (dats m 0 c).before 9 t d = iblk m c 9 t := before0_9_of m (dats m 0 c) (A_eq m c 9) (after9 m c) t d

/-- The write positions do not change between the points of one block of rows, -/
theorem np_carry (c : Dev nD) (t : Fin cfg0.N) (h : ¬ t.val % 4 = 0) :
    (dats m 0 c).after 12 t = (dats m 0 c).after 12 ⟨t.val - 1, by omega⟩ := by
  rw [after12, after12, entry_next m c t h]; rfl

/-- so their buffer still holds them at a later point. -/
theorem before12 (c : Dev nD) (t : Fin cfg0.N) (d) (h : ¬ t.val % 4 = 0) : (dats m 0 c).before 12 t d = (dats m 0 c).after 12 t := by
  rw [(dats m 0 c).before_out_traj 12 rfl (fun _ _ => rfl) (fun t _ hi _ => np_carry m c t fun h0 => by
    rw [show cfg0.grid.coords t = grid0.coords t from rfl, idle12 t, h0] at hi; exact absurd hi (by decide)) t.val t rfl d,
    fresh12 t, if_neg (by simpa using h), np_carry m c t h]

/-- What a stored window's buffer holds after a point. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [show cfg0.grid.coords t = grid0.coords t from rfl, h]

/-- What the pointer's buffer holds after a point that does not store it. -/
theorem leaves12 (c : Dev nD) (t : Fin cfg0.N) (h : ¬ t.val % 4 = 0) (d) :
    owns (c : Thread nD τ) (stg12 t) fullShare ((dats m 0 c).before 12 t d) ⊢ ((dats m 0 c).leavesExact 12 t : sProp 𝕄) := by
  unfold Dat.leavesExact
  rw [show cfg0.grid.coords t = grid0.coords t from rfl, idle12 t, decide_eq_false h]
  cases hf : (cfg0.win 12).flush t
  · show _ ⊢ iprop(∃ d, owns (c : Thread nD τ) (stg12 t) fullShare ((dats m 0 c).before 12 t d))
    iintro H; iexists d; iexact H
  · rw [before12 m c t d h]; exact .rfl

/-! ## The body at a grid point -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare ((dats m 0 c).before 11 t d))
    ∗ (∃ d, owns (c : Thread nD τ) (stg12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

/-- The body at a grid point. -/
theorem body_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).owesAt () t.succ = (dats m 0 c).owesAt () t.castSucc from rfl,
    show (dats m 0 c).Φ t.succ = Inv m c (t.val + 1) t.isLt from rfl, Inv_succ, Phi_castSucc m c t]
  rw [leaves_live m c 0 t rfl, leaves_live m c 1 t rfl, leaves_live m c 2 t rfl, leaves_live m c 3 t rfl, leaves_live m c 4 t rfl, leaves_live m c 5 t rfl, leaves_live m c 6 t rfl, leaves_live m c 7 t rfl, leaves_live m c 8 t rfl, leaves_live m c 9 t rfl, leaves_live m c 11 t rfl, after0, after1, after2, after3, after4, after5, after6, after7, after8, after9, after11]
  by_cases h0 : t.val % 4 = 0
  · have h1 : ¬ t.val % 4 = 3 := by omega
    rw [leaves_live m c 12 t (by rw [idle12, h0]; rfl), after12, Dat.leavesExact_idle (dats m 0 c) 10 t ((idle10 t).trans (by rw [decide_eq_false h1]; rfl)) (flush_no (flush0_10 t) h1)]
    unfold exit
    rw [entry_start m c t h0]
    refine .trans (sep_mono_left (Inv_out m c _ _)) ?_
    rw [PhiA_eq]
    iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply body_first c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) ((cond1_iff t).mpr h0) (fun h => h1 ((cond2_iff t).mp h)) Set.univ _
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H11]; · iexists _; iexact H11
    isplitl [H12]; · iexists _; iexact H12
    isplitl [S0]; · iexact S0
    isplitl [S1]; · iexact S1
    isplitl [S2]; · iexact S2
    isplitl [S3]; · iexact S3
    isplitl [S4]; · iexact S4
    isplitl [S5]; · iexact S5
    iintro ⟨H0, H1, H2, H3, H4, H5, H6, H7, H8, H9, H11, H12, S0, S1, S2, S3, S4, S5⟩
    isplitl [S0 S1 S2 S3 S4 S5 Hg]
    · isplitr [Hg]; swap; · iexact Hg
      isplitl [S0]; · iexact S0
      isplitl [S1]; · iexact S1
      isplitl [S2]; · iexact S2
      isplitl [S3]; · iexact S3
      isplitl [S4]; · iexact S4
      iexists _; iexact S5
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    iexact H12
  · have hz : t.val ≠ 0 := fun h => h0 (by rw [h])
    rw [Inv_pos m c _ _ hz, Inv_succ]
    rw [show exit m c t.val t.isLt = .leave m c t (exit m c (t.val - 1) (by omega)) by unfold exit; rw [entry_next m c t h0]; rfl]
    rw [entry_next m c t h0]
    by_cases h1 : t.val % 4 = 3
    · rw [leaves_live m c 10 t (by rw [idle10, h1]; rfl), after10, entry_next m c t h0]
      iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply body_last c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (exit m c (t.val - 1) (by omega)).o (exit m c (t.val - 1) (by omega)).s (fun h => h0 ((cond1_iff t).mp h)) ((cond2_iff t).mpr h1) Set.univ _
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [S0]; · iexact S0
      isplitl [S1]; · iexact S1
      isplitl [S2]; · iexact S2
      isplitl [S3]; · iexact S3
      isplitl [S4]; · iexact S4
      isplitl [S5]; · iexact S5
      iintro ⟨H0, H1, H2, H3, H4, H5, H6, H7, H8, H9, H10, H11, S0, S1, S2, S3, S4, S5⟩
      isplitl [S0 S1 S2 S3 S4 S5 Hg]
      · isplitr [Hg]; swap; · iexact Hg
        isplitl [S0]; · iexact S0
        isplitl [S1]; · iexact S1
        isplitl [S2]; · iexact S2
        isplitl [S3]; · iexact S3
        isplitl [S4]; · iexact S4
        iexists _; iexact S5
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iapply leaves12 m c t h0 $$ H12
    · rw [Dat.leavesExact_idle (dats m 0 c) 10 t ((idle10 t).trans (by rw [decide_eq_false h1]; rfl)) (flush_no (flush0_10 t) h1)]
      iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply body_mid c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (exit m c (t.val - 1) (by omega)).o (exit m c (t.val - 1) (by omega)).s (fun h => h0 ((cond1_iff t).mp h)) (fun h => h1 ((cond2_iff t).mp h)) Set.univ _
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H11]; · iexists _; iexact H11
      isplitl [S0]; · iexact S0
      isplitl [S1]; · iexact S1
      isplitl [S2]; · iexact S2
      isplitl [S3]; · iexact S3
      isplitl [S4]; · iexact S4
      isplitl [S5]; · iexact S5
      iintro ⟨H0, H1, H2, H3, H4, H5, H6, H7, H8, H9, H11, S0, S1, S2, S3, S4, S5⟩
      isplitl [S0 S1 S2 S3 S4 S5 Hg]
      · isplitr [Hg]; swap; · iexact Hg
        isplitl [S0]; · iexact S0
        isplitl [S1]; · iexact S1
        isplitl [S2]; · iexact S2
        isplitl [S3]; · iexact S3
        isplitl [S4]; · iexact S4
        iexists _; iexact S5
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexact H11
      iapply leaves12 m c t h0 $$ H12

/-! ## The launch -/

/-- The launch's body at a grid point is the printed one. -/
theorem defs_row (t : Fin cfg0.N) : defs₀ (F := F) .tc cfg0.body (cfg0.bodyArgs t (cfg0.slots t)) = bodyAt0 t := by
  unfold defs₀; rw [Defs.onTc_tc]

/-- The body does at every grid point what the launch asks of it. -/
theorem body_obligation (c : Dev nD) : BodyObligation (dats (F := F) m 0 c) (defs₀ (F := F)) Variants.none () Set.univ := fun t => by
  rw [bigSep_W0, bigSep_W0, defs_row]
  exact triple_restated (body_point m c t) rfl .rfl fun _ => .rfl

/-- The invariant holds at the start. -/
theorem inv_in (c : Dev nD) : Pipeline.ΦA spec0 c ⊢ (dats m 0 c).Φ 0 := .rfl

/-- At the end it gives the scratch back. -/
theorem inv_out (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl]
  exact Inv_out m c _ _

set_option backward.isDefEq.respectTransparency.types false in
set_option maxHeartbeats 800000 in
/-- Every fair run of the kernel's program ends, with every array of the region at what the proof data say, every other buffer as the operations after the region leave it, and no semaphore counting. -/
theorem run_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := inv_in m) (hout := inv_out m)

/-- Every run ends with the windows' arrays at their final contents and every other buffer as the operations left it. -/
theorem run_post : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiescent m ρ)

/-- The arguments end as they began, and no semaphore counts. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (frame_of m ρ (dats m) (A_eq m) (run_post m ρ)) ((θ_run defs _ _).mono (fun _ h => h.2) (run_quiescent m ρ))

end Cert.KernelIdeal.Hand

end
-- ==== Proof.Bridge.lean ====
/- The kernel as printed and its idealized program are one program, so the frame proved of the second, at any float
   semantics, is the first's. -/
module

public import proofs.«01_k».proof.Proof.Gen.Kernel
public import proofs.«01_k».proof.Proof.Gen.KernelIdeal
public import proofs.«01_k».proof.Proof.Region
public import proofs.«01_k».proof.Defs

@[expose] public section

set_option maxRecDepth 16384

noncomputable section

namespace Cert.Bridge

open Idealize.ShloMosaic Idealize.SL.Sem

variable {F : FTy → Type} [FloatOps F]

attribute [local instance] Cert.Kernel.Gen.facts Cert.KernelIdeal.Gen.facts

set_option maxHeartbeats 400000 in
/-- The two kernel functions are the same. -/
theorem cell_eq : @Cert.Kernel.cc0__cell_kernel F _ _ = @Cert.KernelIdeal.cc0__cell_kernel F _ _ := rfl

set_option maxHeartbeats 1000000 in
/-- So are the kernels' body tables. -/
theorem bodies_eq : @Cert.Kernel.defs₀ F _ _ = @Cert.KernelIdeal.defs₀ F _ _ := by
  unfold Cert.Kernel.defs₀ Cert.KernelIdeal.defs₀
  refine congrArg (Defs.onTc (nD := Cert.Kernel.nD) (τ := Cert.Kernel.τ) (sig := Cert.Kernel.sig) (Val := Elt F) (Λ := Cert.Kernel.Λ₀)) ?_
  funext l a
  match l with
  | ⟨0, _⟩ =>
    obtain ⟨t, s⟩ := a
    rw [cell_eq]
    rfl

/-- And the whole body tables. -/
theorem defs_eq : @Cert.Kernel.defs F _ _ = @Cert.KernelIdeal.defs F _ _ :=
  congrArg (Pipeline.defs (Cert.Kernel.pcfgs (F := F))) bodies_eq

set_option maxHeartbeats 4000000 in
/-- And the two `main`s. -/
theorem main_eq (d : Dev Cert.Kernel.nD) : @Cert.Kernel.main F _ _ d = @Cert.KernelIdeal.main F _ _ d := by
  unfold Cert.Kernel.main Cert.KernelIdeal.main
  rfl

/-- The kernel's frame. -/
theorem kernel_frame : Cert.quiescent_Kernel := fun m ρ _ => by
  rw [defs_eq, funext main_eq]
  exact Cert.KernelIdeal.Hand.frame (F := Bits) m ρ

end Cert.Bridge

end
-- ==== Proof.RefRun.lean ====
/- The reference: its arguments end unchanged, and what its results hold, as composed operations on the arguments. -/
module

public import proofs.«01_k».proof.Proof.Gen.ReferenceIdeal.Run
public import Idealize.ShloMosaic.Lib.Claim
public import Idealize.ShloMosaic.Lib.Quiescent

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo Idealize.ShloMosaic.Tactic
open Idealize.SL.Sem

variable {F : FTy → Type} [FloatOps F]
variable (m : (ℓ : Loc nD τ sig) → Buf (Elt F) ℓ) (ρ : Dev nD → PrngReg)

/-! ## The frame -/

/-- Every buffer some operation before or in the loop writes. -/
abbrev written : List (Ref sig .tc) := hostOps0_W ++ hostOps0_1_W ++ hostOps0_2_W ++ hostOps0_3_W ++ hostOps0_4_W ++ while0Ops0_W ++ while0Ops0_1_W ++ condOps_W

/-- A buffer the loop does not write holds after any number of trips what it held at the loop's entry. -/
theorem atK_keep (c : Dev nD) (r : Ref sig .tc) (h0 : r ∉ while0Ops0_W) (h1 : r ∉ while0Ops0_1_W) (h2 : r ∉ condOps_W) :
    ∀ k, atK m k c (Proc.devRef .tc r) = entryContents preI m c (Proc.devRef .tc r)
  | 0 => rfl
  | k + 1 => by
    rw [show atK m (k + 1) c = afterL bodyI (after condOps (atK m k c)) from rfl]
    simp only [afterL_cons, afterL_nil]
    rw [after_of_writes_sub while0Ops0_1 _ while0Ops0_1_writes h1, after_of_writes_sub while0Ops0 _ while0Ops0_writes h0,
      after_of_writes_sub condOps _ condOps_writes h2, atK_keep c r h0 h1 h2 k]
    rfl

/-- So it does at the end. -/
theorem final_entry (c : Dev nD) (r : Ref sig .tc) (h0 : r ∉ while0Ops0_W) (h1 : r ∉ while0Ops0_1_W) (h2 : r ∉ condOps_W) :
    finalContents condOps preI bodyI postI 64 m c (Proc.devRef .tc r) = entryContents preI m c (Proc.devRef .tc r) := by
  rw [show finalContents condOps preI bodyI postI 64 m c = after condOps (atK m 64 c) from rfl,
    after_of_writes_sub condOps _ condOps_writes h2, atK_keep m c r h0 h1 h2]

/-- A buffer no operation writes ends as it began. -/
theorem final_keep (c : Dev nD) (r : Ref sig .tc) (h : r ∉ written) :
    finalContents condOps preI bodyI postI 64 m c (Proc.devRef .tc r) = m ((c.tc : Thread nD τ).loc r) := by
  simp only [written, List.mem_append, not_or] at h
  obtain ⟨⟨⟨⟨⟨⟨⟨a0, a1⟩, a2⟩, a3⟩, a4⟩, b0⟩, b1⟩, b2⟩ := h
  rw [final_entry m c r b0 b1 b2]
  simp only [entryContents, afterL_cons, afterL_nil]
  rw [after_of_writes_sub hostOps0_4 _ hostOps0_4_writes a4, after_of_writes_sub hostOps0_3 _ hostOps0_3_writes a3,
    after_of_writes_sub hostOps0_2 _ hostOps0_2_writes a2, after_of_writes_sub hostOps0_1 _ hostOps0_1_writes a1,
    after_of_writes_sub hostOps0 _ hostOps0_writes a0]

/-- The arguments end unchanged, with every other buffer at the fold of the operations. -/
theorem run_args : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => by
    refine ⟨?_, ?_, ?_, ?_, ?_, ?_, ?_, ?_, ?_, ?_, ?_, ?_⟩
    · exact (h c main_arg0 rfl).trans (final_keep m c main_arg0 (by decide))
    · exact (h c main_arg1 rfl).trans (final_keep m c main_arg1 (by decide))
    · exact (h c main_arg2 rfl).trans (final_keep m c main_arg2 (by decide))
    · exact (h c main_arg3 rfl).trans (final_keep m c main_arg3 (by decide))
    · exact (h c main_arg4 rfl).trans (final_keep m c main_arg4 (by decide))
    · exact (h c main_arg5 rfl).trans (final_keep m c main_arg5 (by decide))
    · exact (h c main_arg6 rfl).trans (final_keep m c main_arg6 (by decide))
    · exact (h c main_arg7 rfl).trans (final_keep m c main_arg7 (by decide))
    · exact (h c main_arg8 rfl).trans (final_keep m c main_arg8 (by decide))
    · exact (h c main_arg9 rfl).trans (final_keep m c main_arg9 (by decide))
    · exact (h c main_arg10 rfl).trans (final_keep m c main_arg10 (by decide))
    · exact (h c main_arg11 rfl).trans (final_keep m c main_arg11 (by decide))) (run_fold m ρ)

/-- The reference's frame: the arguments end unchanged and no semaphore counts. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨h, sem_eq_zero_of_no_sems (by decide) _⟩) (run_args m ρ)

/-! ## What the operations before the loop compute -/

/-- The event's logit of each row. -/
def logit (x : Vec F S512x256 .f32) (wd : Vec F S1x256 .f32) (bd : Vec F S1 .f32) : Vec F S512x1 .f32 :=
  addf (Host.dotGeneral dot_S512x256_S256x1_S512x1_1_0_0_1_n_n none x (transpose S256x1 [1, 0] wd transposes_S1x256_S256x1_1_0))
    (broadcastInDim S512x1 ![0, 1] bcast_S1x1_S512x1_0_1 (broadcastInDim S1x1 ![1] bcast_S1_S1x1_1 bd))

/-- Whether each row has an event: the logit's sigmoid against the threshold. -/
def event (x : Vec F S512x256 .f32) (wd : Vec F S1x256 .f32) (bd : Vec F S1 .f32) : Vec F S512x1 .i1 :=
  cmpf .ogt (Host.divf (broadcastInDim S512x1 ![] bcast_S_S512x1 (constant S_ .f32 0x3F800000#32))
      (addf (broadcastInDim S512x1 ![] bcast_S_S512x1 (constant S_ .f32 0x3F800000#32)) (Host.exp (Host.negf (logit x wd bd)))))
    (broadcastInDim S512x1 ![] bcast_S_S512x1 (constant S_ .f32 0x3F59999A#32))

/-- The row each batch row writes. -/
def newRow (x : Vec F S512x256 .f32) (wv : Vec F S256x256 .f32) (bv : Vec F S256 .f32) : Vec F S512x256 .f32 :=
  addf (Host.dotGeneral dot_S512x256_S256x256_S512x256_1_0_0_1_n_n none x (transpose S256x256 [1, 0] wv transposes_S256x256_S256x256_1_0))
    (broadcastInDim S512x256 ![0, 1] bcast_S1x256_S512x256_0_1 (broadcastInDim S1x256 ![1] bcast_S256_S1x256_1 bv))

/-- The row and the slot each batch row writes to. -/
def places (p : Vec F S512 .i32) : Vec F S512x2 .i32 :=
  concatenate S512x2 1
    [⟨S512x1, broadcastInDim S512x1 ![0] bcast_S512_S512x1_0 (select (cmpi .slt (iotaInDim S512 32 0) (broadcastInDim S512 ![] bcast_S_S512 (constantI S_ 32 0#32)))
        (addi (iotaInDim S512 32 0) (broadcastInDim S512 ![] bcast_S_S512 (constantI S_ 32 512#32))) (iotaInDim S512 32 0))⟩,
     ⟨S512x1, broadcastInDim S512x1 ![0] bcast_S512_S512x1_0 (select (cmpi .slt p (broadcastInDim S512 ![] bcast_S_S512 (constantI S_ 32 0#32)))
        (addi p (broadcastInDim S512 ![] bcast_S_S512 (constantI S_ 32 64#32))) p)⟩]
    concatenates_S512x1_S512x1_S512x2_d1

/-- The slots with every batch row's new row written. -/
def scattered (x : Vec F S512x256 .f32) (sl : Vec F S512x64x256 .f32) (p : Vec F S512 .i32) (wv : Vec F S256x256 .f32) (bv : Vec F S256 .f32) : Vec F S512x64x256 .f32 :=
  Host.scatter scatter_S512x64x256_S512x2_S512x256_1_01_01_1 (fun _ b => b) sl (places p) (newRow x wv bv)

/-- The new slots: the written ones where there is an event. -/
def slots' (x : Vec F S512x256 .f32) (sl : Vec F S512x64x256 .f32) (p : Vec F S512 .i32) (wv : Vec F S256x256 .f32) (bv : Vec F S256 .f32) (wd : Vec F S1x256 .f32) (bd : Vec F S1 .f32) : Vec F S512x64x256 .f32 :=
  select (broadcastInDim S512x64x256 ![0, 1, 2] bcast_S512x1x1_S512x64x256_0_1_2 (broadcastInDim S512x1x1 ![0, 1] bcast_S512x1_S512x1x1_0_1 (event x wd bd)))
    (scattered x sl p wv bv) sl

/-- The next write position before it is wrapped. -/
def bumped (x : Vec F S512x256 .f32) (p : Vec F S512 .i32) (wd : Vec F S1x256 .f32) (bd : Vec F S1 .f32) : Vec F S512 .i32 :=
  addi p (extui 32 (shapeCast S512 (event x wd bd) shapeCasts_S512x1_S512) natLt_1_32)

/-- The divisor of the wrap. -/
def divisor (n : Vec F S_ .i32) : Vec F S_ .i32 :=
  select (cmpi .eq n (constantI S_ 32 0#32)) (constantI S_ 32 1#32) n

/-- The remainder with the divisor's sign. -/
def wrapped (n : Vec F S_ .i32) (q : Vec F S512 .i32) : Vec F S512 .i32 :=
  select (andi (cmpi .ne (cmpi .slt (Host.remsi q (broadcastInDim S512 ![] bcast_S_S512 (divisor n))) (broadcastInDim S512 ![] bcast_S_S512 (constantI S_ 32 0#32)))
        (broadcastInDim S512 ![] bcast_S_S512 (cmpi .slt (divisor n) (constantI S_ 32 0#32))))
      (cmpi .ne (Host.remsi q (broadcastInDim S512 ![] bcast_S_S512 (divisor n))) (broadcastInDim S512 ![] bcast_S_S512 (constantI S_ 32 0#32))))
    (addi (Host.remsi q (broadcastInDim S512 ![] bcast_S_S512 (divisor n))) (broadcastInDim S512 ![] bcast_S_S512 (divisor n)))
    (Host.remsi q (broadcastInDim S512 ![] bcast_S_S512 (divisor n)))

/-- The slots the recurrence reads, slot by slot: the new slots and the position embedding. -/
def inputs (s : Vec F S512x64x256 .f32) (pe : Vec F S64x256 .f32) : Vec F S64x512x256 .f32 :=
  transpose S64x512x256 [1, 0, 2] (addf s (broadcastInDim S512x64x256 ![0, 1, 2] bcast_S1x64x256_S512x64x256_0_1_2
    (broadcastInDim S1x64x256 ![1, 2] bcast_S64x256_S1x64x256_1_2 pe))) transposes_S512x64x256_S64x512x256_1_0_2

set_option maxHeartbeats 1000000 in
theorem read_v12 (V : Valuation τ sig (Elt F)) : after hostOps0 V (Proc.devRef .tc main_v12) = event (V (Proc.devRef .tc main_arg0)) (V (Proc.devRef .tc main_arg5)) (V (Proc.devRef .tc main_arg6)) := by
  after_reads_simp; rfl
set_option maxHeartbeats 1000000 in
theorem read_v13 (V : Valuation τ sig (Elt F)) : after hostOps0 V (Proc.devRef .tc main_v13) = broadcastInDim S512x1x1 ![0, 1] bcast_S512x1_S512x1x1_0_1 (event (V (Proc.devRef .tc main_arg0)) (V (Proc.devRef .tc main_arg5)) (V (Proc.devRef .tc main_arg6))) := by
  after_reads_simp; rfl
set_option maxHeartbeats 1000000 in
theorem read_v33 (V : Valuation τ sig (Elt F)) : after hostOps0 V (Proc.devRef .tc main_v33) = scattered (V (Proc.devRef .tc main_arg0)) (V (Proc.devRef .tc main_arg1)) (V (Proc.devRef .tc main_arg2)) (V (Proc.devRef .tc main_arg3)) (V (Proc.devRef .tc main_arg4)) := by
  after_reads_simp; rfl
/-- The second stretch makes the new slots. -/
theorem read_v34 (V : Valuation τ sig (Elt F)) : after hostOps0_1 V (Proc.devRef .tc main_v34)
    = select (broadcastInDim S512x64x256 ![0, 1, 2] bcast_S512x1x1_S512x64x256_0_1_2 (V (Proc.devRef .tc main_v13))) (V (Proc.devRef .tc main_v33)) (V (Proc.devRef .tc main_arg1)) := by
  after_reads_simp; rfl
/-- The third stretch makes the write positions before the wrap. -/
theorem read_v37 (V : Valuation τ sig (Elt F)) : after hostOps0_2 V (Proc.devRef .tc main_v37)
    = addi (V (Proc.devRef .tc main_arg2)) (extui 32 (shapeCast S512 (V (Proc.devRef .tc main_v12)) shapeCasts_S512x1_S512) natLt_1_32) := by
  after_reads_simp; rfl
/-- The third stretch makes the divisor, 64. -/
theorem read_c5 (V : Valuation τ sig (Elt F)) : after hostOps0_2 V (Proc.devRef .tc main_c_5) = constantI S_ 32 64#32 := by
  after_reads_simp
set_option maxHeartbeats 1000000 in
theorem read_v38 (V : Valuation τ sig (Elt F)) :
    after hostOps0_3 V (Proc.devRef .tc main_v38) = wrapped (V (Proc.devRef .tc main_c_5)) (V (Proc.devRef .tc main_v37)) := by
  after_reads_simp; rfl
/-- The fifth stretch makes what the loop carries: the inputs, the weights and biases, and two zero arrays. -/
theorem read_v45_0 (V : Valuation τ sig (Elt F)) : after hostOps0_4 V (Proc.devRef .tc main_v45_0) = inputs (V (Proc.devRef .tc main_v34)) (V (Proc.devRef .tc main_arg7)) := by
  after_reads_simp; rfl
theorem read_v45_1 (V : Valuation τ sig (Elt F)) : after hostOps0_4 V (Proc.devRef .tc main_v45_1) = V (Proc.devRef .tc main_arg8) := by
  after_reads_simp; rfl
theorem read_v45_2 (V : Valuation τ sig (Elt F)) : after hostOps0_4 V (Proc.devRef .tc main_v45_2) = V (Proc.devRef .tc main_arg10) := by
  after_reads_simp; rfl
theorem read_v45_3 (V : Valuation τ sig (Elt F)) : after hostOps0_4 V (Proc.devRef .tc main_v45_3) = V (Proc.devRef .tc main_arg9) := by
  after_reads_simp; rfl
theorem read_v45_4 (V : Valuation τ sig (Elt F)) : after hostOps0_4 V (Proc.devRef .tc main_v45_4) = V (Proc.devRef .tc main_arg11) := by
  after_reads_simp; rfl
theorem read_v45_6 (V : Valuation τ sig (Elt F)) : after hostOps0_4 V (Proc.devRef .tc main_v45_6) = broadcastInDim S512x512 ![] bcast_S_S512x512 (constant S_ .f32 0x00000000#32) := by
  after_reads_simp; rfl
theorem read_v45_7 (V : Valuation τ sig (Elt F)) : after hostOps0_4 V (Proc.devRef .tc main_v45_7) = broadcastInDim S512x512 ![] bcast_S_S512x512 (constant S_ .f32 0x00000000#32) := by
  after_reads_simp; rfl

/-! ## The loop's entry -/

/-- The launch contents after the first `j` of the stretches before the loop. -/
abbrev E1 (c : Dev nD) : Valuation τ sig (Elt F) := after hostOps0 (launchContents m c)
abbrev E2 (c : Dev nD) : Valuation τ sig (Elt F) := after hostOps0_1 (E1 m c)
abbrev E3 (c : Dev nD) : Valuation τ sig (Elt F) := after hostOps0_2 (E2 m c)
abbrev E4 (c : Dev nD) : Valuation τ sig (Elt F) := after hostOps0_3 (E3 m c)

/-- The loop is entered with the contents after the fifth stretch. -/
theorem entry_eq (c : Dev nD) : entryContents preI m c = after hostOps0_4 (E4 m c) := rfl

/-- After the second stretch the slots are the new slots. -/
theorem E2_slots (c : Dev nD) : E2 m c (Proc.devRef .tc main_v34) = slots' (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold E2 E1
  rw [read_v34, read_v13, read_v33, after_of_writes_sub hostOps0 _ hostOps0_writes (by decide)]; rfl

/-- They still are after the fourth. -/
theorem E4_slots (c : Dev nD) : E4 m c (Proc.devRef .tc main_v34) = slots' (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold E4 E3
  rw [after_of_writes_sub hostOps0_3 _ hostOps0_3_writes (by decide), after_of_writes_sub hostOps0_2 _ hostOps0_2_writes (by decide), E2_slots]

/-- An argument before the last stretch. -/
theorem E4_arg (c : Dev nD) (r : Ref sig .tc) (h : r ∉ written) : E4 m c (Proc.devRef .tc r) = m ((c.tc : Thread nD τ).loc r) := by
  simp only [written, List.mem_append, not_or] at h
  obtain ⟨⟨⟨⟨⟨⟨⟨a0, a1⟩, a2⟩, a3⟩, a4⟩, b0⟩, b1⟩, b2⟩ := h
  unfold E4 E3 E2 E1
  rw [after_of_writes_sub hostOps0_3 _ hostOps0_3_writes a3,
    after_of_writes_sub hostOps0_2 _ hostOps0_2_writes a2, after_of_writes_sub hostOps0_1 _ hostOps0_1_writes a1,
    after_of_writes_sub hostOps0 _ hostOps0_writes a0]

/-- The second result: the new slots. -/
theorem final_slots (c : Dev nD) : finalContents condOps preI bodyI postI 64 m c (Proc.devRef .tc main_v34) = slots' (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [final_entry m c main_v34 (by decide) (by decide) (by decide), entry_eq, after_of_writes_sub hostOps0_4 _ hostOps0_4_writes (by decide), E4_slots]

/-- The third: the next write positions. -/
theorem final_ptr (c : Dev nD) : finalContents condOps preI bodyI postI 64 m c (Proc.devRef .tc main_v38) = wrapped (constantI S_ 32 64#32) (bumped (m ((c.tc : Thread nD τ).loc main_arg0)) (m ((c.tc : Thread nD τ).loc main_arg2)) (m ((c.tc : Thread nD τ).loc main_arg5)) (m ((c.tc : Thread nD τ).loc main_arg6))) := by
  rw [final_entry m c main_v38 (by decide) (by decide) (by decide), entry_eq, after_of_writes_sub hostOps0_4 _ hostOps0_4_writes (by decide)]
  unfold E4 E3 E2 E1
  rw [read_v38, read_c5, read_v37, after_of_writes_sub hostOps0_1 _ hostOps0_1_writes (by decide), after_of_writes_sub hostOps0_1 _ hostOps0_1_writes (by decide),
    read_v12, after_of_writes_sub hostOps0 _ hostOps0_writes (by decide)]
  rfl

/-! ## The recurrence -/

/-- The gates of one step, of the step's rows, the hidden state and the weights. -/
def gates (xt : Vec F S512x256 .f32) (h : Vec F S512x512 .f32) (wi : Vec F S2048x256 .f32) (wh : Vec F S2048x512 .f32) (bi bh : Vec F S2048 .f32) : Vec F S512x2048 .f32 :=
  addf (addf (addf (Host.dotGeneral dot_S512x256_S256x2048_S512x2048_1_0_0_1_n_n none xt (transpose S256x2048 [1, 0] wi transposes_S2048x256_S256x2048_1_0))
      (broadcastInDim S512x2048 ![0, 1] bcast_S1x2048_S512x2048_0_1 (broadcastInDim S1x2048 ![1] bcast_S2048_S1x2048_1 bi)))
      (Host.dotGeneral dot_S512x512_S512x2048_S512x2048_1_0_0_1_n_n none h (transpose S512x2048 [1, 0] wh transposes_S2048x512_S512x2048_1_0)))
    (broadcastInDim S512x2048 ![0, 1] bcast_S1x2048_S512x2048_0_1 (broadcastInDim S1x2048 ![1] bcast_S2048_S1x2048_1 bh))

/-- The sigmoid, as the operations spell it. -/
def sigm (x : Vec F S512x512 .f32) : Vec F S512x512 .f32 :=
  Host.divf (broadcastInDim S512x512 ![] bcast_S_S512x512 (constant S_ .f32 0x3F800000#32))
    (addf (broadcastInDim S512x512 ![] bcast_S_S512x512 (constant S_ .f32 0x3F800000#32)) (Host.exp (Host.negf x)))

/-- The cell state after one step. -/
def cellOf (g : Vec F S512x2048 .f32) (cc : Vec F S512x512 .f32) : Vec F S512x512 .f32 :=
  addf (mulf (sigm (extractStridedSlice S512x512 ![0, 512] g slices_S512x2048_S512x512_0_512)) cc)
    (mulf (sigm (extractStridedSlice S512x512 ![0, 0] g slices_S512x2048_S512x512_0_0)) (Host.tanh (extractStridedSlice S512x512 ![0, 1024] g slices_S512x2048_S512x512_0_1024)))

/-- The hidden state after one step. -/
def hiddenOf (g : Vec F S512x2048 .f32) (cc : Vec F S512x512 .f32) : Vec F S512x512 .f32 :=
  mulf (sigm (extractStridedSlice S512x512 ![0, 1536] g slices_S512x2048_S512x512_0_1536)) (Host.tanh (cellOf g cc))

/-- The rows of one slot, as the loop takes them. -/
def slotRows (xs : Vec F S64x512x256 .f32) (k : Vec F S_ .i32) : Vec F S512x256 .f32 :=
  shapeCast S512x256 (Host.dynamicSlice S1x512x256 xs (fun j => (((![k, constantI S_ 32 0#32, constantI S_ 32 0#32] : Fin 3 → (⟨S_, .i32⟩ : BufTy).Contents (Elt F))) j (Shape.Idx.first h_S_)).toInt) sliceFits_S64x512x256_S1x512x256) shapeCasts_S1x512x256_S512x256

/-- The recurrent state after `k` steps. -/
def state (xs : Vec F S64x512x256 .f32) (wi : Vec F S2048x256 .f32) (wh : Vec F S2048x512 .f32) (bi bh : Vec F S2048 .f32) : ℕ → Vec F S512x512 .f32 × Vec F S512x512 .f32
  | 0 => (broadcastInDim S512x512 ![] bcast_S_S512x512 (constant S_ .f32 0x00000000#32), broadcastInDim S512x512 ![] bcast_S_S512x512 (constant S_ .f32 0x00000000#32))
  | k + 1 =>
    let s := state xs wi wh bi bh k
    let g := gates (slotRows xs (fun _ => Scf.iv 0#32 1#32 k)) s.1 wi wh bi bh
    (hiddenOf g s.2, cellOf g s.2)

/-- What the loop's carried buffers hold after `k` trips. -/
structure Carried (V : Valuation τ sig (Elt F)) (xs : Vec F S64x512x256 .f32) (wi : Vec F S2048x256 .f32) (wh : Vec F S2048x512 .f32) (bi bh : Vec F S2048 .f32) (k : ℕ) : Prop where
  xs_eq : V (Proc.devRef .tc main_v45_0) = xs
  wi_eq : V (Proc.devRef .tc main_v45_1) = wi
  bi_eq : V (Proc.devRef .tc main_v45_2) = bi
  wh_eq : V (Proc.devRef .tc main_v45_3) = wh
  bh_eq : V (Proc.devRef .tc main_v45_4) = bh
  k_eq : V (Proc.devRef .tc main_v45_5) = fun _ => Scf.iv 0#32 1#32 k
  h_eq : V (Proc.devRef .tc main_v45_6) = (state xs wi wh bi bh k).1
  c_eq : V (Proc.devRef .tc main_v45_7) = (state xs wi wh bi bh k).2

variable {xs : Vec F S64x512x256 .f32} {wi : Vec F S2048x256 .f32} {wh : Vec F S2048x512 .f32} {bi bh : Vec F S2048 .f32} {k : ℕ}

/-- The gates the loop body makes are those of the next step. -/
theorem Carried.gates_eq {V : Valuation τ sig (Elt F)} (h : Carried V xs wi wh bi bh k) :
    res_main_while0b_v57 V = gates (slotRows xs (fun _ => Scf.iv 0#32 1#32 k)) (state xs wi wh bi bh k).1 wi wh bi bh := by
  unfold res_main_while0b_v57
  rw [h.xs_eq, h.wi_eq, h.bi_eq, h.wh_eq, h.bh_eq, h.k_eq, h.h_eq]; rfl

/-- The cell state it makes is that of the next step. -/
theorem Carried.cell_eq {V : Valuation τ sig (Elt F)} (h : Carried V xs wi wh bi bh k) : res_main_while0b_v83 V = (state xs wi wh bi bh (k + 1)).2 := by
  unfold res_main_while0b_v83
  rw [h.gates_eq, h.c_eq]; rfl

/-- One trip through the loop takes the state one step on. -/
theorem Carried.step {V : Valuation τ sig (Elt F)} (h : Carried V xs wi wh bi bh k) : Carried (STEP V) xs wi wh bi bh (k + 1) where
  xs_eq := by rw [STEP_main_v45_0, h.xs_eq]
  wi_eq := by rw [STEP_main_v45_1, h.wi_eq]
  bi_eq := by rw [STEP_main_v45_2, h.bi_eq]
  wh_eq := by rw [STEP_main_v45_3, h.wh_eq]
  bh_eq := by rw [STEP_main_v45_4, h.bh_eq]
  k_eq := by rw [STEP_main_v45_5, step_main_v45_5, h.k_eq, Scf.iv_succ]; rfl
  h_eq := by rw [STEP_main_v45_6, step_main_v45_6, h.gates_eq, h.cell_eq]; rfl
  c_eq := by rw [STEP_main_v45_7, step_main_v45_7, h.cell_eq]; rfl

/-- After `k` trips the loop carries the state of step `k`. -/
theorem carried_iterate (V : Valuation τ sig (Elt F)) (h : Carried V xs wi wh bi bh 0) : ∀ k, Carried (STEP^[k] V) xs wi wh bi bh k
  | 0 => h
  | k + 1 => by rw [Function.iterate_succ_apply']; exact (carried_iterate V h k).step

/-- The loop is entered with the state of step 0. -/
theorem carried_entry (c : Dev nD) : Carried (entryContents preI m c) (inputs (slots' (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7))) (m ((c.tc : Thread nD τ).loc main_arg8)) (m ((c.tc : Thread nD τ).loc main_arg9)) (m ((c.tc : Thread nD τ).loc main_arg10)) (m ((c.tc : Thread nD τ).loc main_arg11)) 0 where
  xs_eq := by rw [entry_eq, read_v45_0, E4_slots, E4_arg m c main_arg7 (by decide)]
  wi_eq := by rw [entry_eq, read_v45_1, E4_arg m c main_arg8 (by decide)]
  bi_eq := by rw [entry_eq, read_v45_2, E4_arg m c main_arg10 (by decide)]
  wh_eq := by rw [entry_eq, read_v45_3, E4_arg m c main_arg9 (by decide)]
  bh_eq := by rw [entry_eq, read_v45_4, E4_arg m c main_arg11 (by decide)]
  k_eq := by rw [ctr_entry, Scf.iv_zero]
  h_eq := by rw [entry_eq, read_v45_6]; rfl
  c_eq := by rw [entry_eq, read_v45_7]; rfl

/-- The first result: the hidden state after the 64 steps. -/
theorem final_hidden (c : Dev nD) : finalContents condOps preI bodyI postI 64 m c (Proc.devRef .tc main_v45_6)
    = (state (inputs (slots' (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7))) (m ((c.tc : Thread nD τ).loc main_arg8)) (m ((c.tc : Thread nD τ).loc main_arg9)) (m ((c.tc : Thread nD τ).loc main_arg10)) (m ((c.tc : Thread nD τ).loc main_arg11)) 64).1 := by
  rw [show finalContents condOps preI bodyI postI 64 m c = after condOps (atK m 64 c) from rfl,
    after_of_writes_sub condOps _ condOps_writes (by decide), atK_agree m c 64 main_v45_6 (by decide)]
  exact (carried_iterate _ (carried_entry m c) 64).h_eq

end Cert.ReferenceIdeal.Hand

end
-- ==== Proof.Spec.lean ====
/- The problem's mathematics over the extended reals, element by element, and the laws by which the kernel's spelling of
   it is the reference's. -/
module

public import Idealize.ShloMosaic.PureOps.Ideal
public import Idealize.ShloMosaic.PureOps.Ideal.Laws
public import Idealize.ShloMosaic.Lib.IdealHost

@[expose] public section

noncomputable section

namespace Cert.Spec

open Idealize.ShloMosaic

/-! ## Laws of the extended reals -/

/-- One half. -/
def half : EReal := ((1 / 2 : ℝ) : EReal)

/-- One half is not negative. -/
theorem half_nonneg : 0 ≤ half := by
  unfold half; exact EReal.coe_nonneg.2 (by norm_num)

/-- One half is not infinite. -/
theorem half_ne_top : half ≠ ⊤ := EReal.coe_ne_top _

/-- The word of 0.5 denotes one half. -/
theorem ofBits_half : Ideal.ofBits .f32 0x3F000000#32 = half := by
  unfold half
  simp [Ideal.ofBits, Ideal.ieee]
  rw [← EReal.coe_mul]
  norm_num

/-- Scaling by a nonnegative real distributes over a sum. -/
theorem scale_sum {c : EReal} (h0 : 0 ≤ c) (ht : c ≠ ⊤) {ι : Type} [Fintype ι] (f : ι → EReal) : c * ∑ i, f i = ∑ i, c * f i := by
  classical
  induction (Finset.univ : Finset ι) using Finset.induction_on with
  | empty => simp
  | insert a s ha ih => rw [Finset.sum_insert ha, Finset.sum_insert ha, EReal.left_distrib_of_nonneg_of_ne_top h0 ht, ih]

/-- A product by a real distributes over the sum of anything and a real. -/
theorem add_coe_mul (a : EReal) (p w : ℝ) : (a + p) * w = a * w + p * w := by
  induction a with
  | bot =>
    rcases lt_trichotomy w 0 with h | h | h
    · rw [EReal.bot_add, EReal.bot_mul_coe_of_neg h, ← EReal.coe_mul, EReal.top_add_coe]
    · subst h; simp
    · rw [EReal.bot_add, EReal.bot_mul_coe_of_pos h, EReal.bot_add]
  | top =>
    rcases lt_trichotomy w 0 with h | h | h
    · rw [EReal.top_add_coe, EReal.top_mul_coe_of_neg h, EReal.bot_add]
    · subst h; simp
    · rw [EReal.top_add_coe, EReal.top_mul_coe_of_pos h, ← EReal.coe_mul, EReal.top_add_coe]
  | coe r => norm_cast; ring

/-- The sigmoid by the hyperbolic tangent of half its argument. -/
theorem logistic_eq (x : EReal) : Ideal.logistic x = half * (Ideal.tanh (half * x) + 1) := by
  induction x with
  | bot =>
    rw [Ideal.logistic_bot, half, EReal.coe_mul_bot_of_pos (by norm_num)]
    show _ = _ * ((-1 : EReal) + 1)
    rw [show (-1 : EReal) + 1 = ((-1 + 1 : ℝ) : EReal) from rfl]
    simp
  | top =>
    rw [Ideal.logistic_top, half, EReal.coe_mul_top_of_pos (by norm_num)]
    show _ = _ * ((1 : EReal) + 1)
    rw [show (1 : EReal) + 1 = ((1 + 1 : ℝ) : EReal) by norm_cast, ← EReal.coe_mul]
    norm_num
  | coe r =>
    rw [Ideal.logistic_coe, half, ← EReal.coe_mul]
    show _ = _ * (((Real.tanh (1 / 2 * r) : ℝ) : EReal) + 1)
    rw [show ((Real.tanh (1 / 2 * r) : ℝ) : EReal) + 1 = ((Real.tanh (1 / 2 * r) + 1 : ℝ) : EReal) by norm_cast, ← EReal.coe_mul]
    congr 1
    have e1 : Real.exp (-r) = Real.exp (-(1 / 2 * r)) * Real.exp (-(1 / 2 * r)) := by rw [← Real.exp_add]; ring_nf
    have e2 : Real.exp (1 / 2 * r) * Real.exp (-(1 / 2 * r)) = 1 := by rw [← Real.exp_add]; simp
    rw [Real.tanh_eq_sinh_div_cosh, Real.sinh_eq, Real.cosh_eq, e1]
    set a := Real.exp (1 / 2 * r)
    set b := Real.exp (-(1 / 2 * r))
    have ha : 0 < a := Real.exp_pos _
    have hb : 0 < b := Real.exp_pos _
    have : a + b ≠ 0 := by positivity
    have : 1 + b * b ≠ 0 := by positivity
    field_simp
    nlinarith

/-! ## The event, the slots and the write position of one row -/

/-- The event's logit of a row `x`. -/
def logit (x wd : Fin 256 → EReal) (bd : EReal) : EReal := (∑ d, x d * wd d) + bd

/-- Whether the row has an event, as a bit: the logit's sigmoid is above the threshold. -/
def event (x wd : Fin 256 → EReal) (bd : EReal) : BitVec 1 := Ideal.cmp .ogt (Ideal.logistic (logit x wd bd)) (Ideal.ofBits .f32 0x3F59999A#32)

/-- The new row. -/
def newRow (x : Fin 256 → EReal) (wv : Fin 256 → Fin 256 → EReal) (bv : Fin 256 → EReal) (d : Fin 256) : EReal := (∑ k, x k * wv d k) + bv d

/-- Slot `s` after the write: the new row if there is an event and the write position is `s`, what it held otherwise. -/
def slot (e : BitVec 1) (p : BitVec 32) (v old : Fin 256 → EReal) (s : ℕ) (d : Fin 256) : EReal := if p = BitVec.ofNat 32 s ∧ e = 1#1 then v d else old d

/-- The next write position. -/
def bump (e : BitVec 1) (p : BitVec 32) : BitVec 32 := (p + e.setWidth 32).srem 64#32

/-- The remainder by 64 is the same word on every unit. -/
theorem remsi_64 (u : ArithUnit) (x : BitVec 32) : IntOp.remsi u x 64#32 = x.srem 64#32 := by
  unfold IntOp.remsi
  rw [if_neg]
  simp [IntOp.SDivCorner]

/-! ## The recurrence of one row -/

/-- What a step's gate scales by before the hyperbolic tangent: one for the third gate, one half for the others. -/
def scale (j : Fin 2048) : EReal := if 1024 ≤ j.val ∧ j.val < 1536 then 1 else half

/-- A scale is not negative. -/
theorem scale_nonneg (j : Fin 2048) : 0 ≤ scale j := by
  unfold scale; split
  · exact zero_le_one
  · exact half_nonneg

/-- A scale is not infinite. -/
theorem scale_ne_top (j : Fin 2048) : scale j ≠ ⊤ := by
  unfold scale; split
  · exact EReal.coe_ne_top 1
  · exact half_ne_top

/-- A gate of one step: of the step's slot `a` and position `p`, and the hidden state `h`. -/
def gate (wi : Fin 2048 → Fin 256 → EReal) (wh : Fin 2048 → Fin 512 → EReal) (bi bh : Fin 2048 → EReal) (a p : Fin 256 → EReal) (h : Fin 512 → EReal) (j : Fin 2048) : EReal :=
  ((∑ d, (a d + p d) * wi j d) + bi j) + (∑ k, h k * wh j k) + bh j

/-- The same gate scaled, its terms grouped as the kernel groups them. -/
theorem scale_gate (wi : Fin 2048 → Fin 256 → EReal) (wh : Fin 2048 → Fin 512 → EReal) (bi bh : Fin 2048 → EReal) (a p : Fin 256 → EReal) (h : Fin 512 → EReal) (j : Fin 2048)
    (hw : ∀ d, ∃ r : ℝ, wi j d = r) (hp : ∀ d, ∃ r : ℝ, p d = r) :
    scale j * gate wi wh bi bh a p h j
      = ((∑ d, a d * (wi j d * scale j)) + ∑ k, h k * (wh j k * scale j)) + ((bi j + bh j) * scale j + ∑ d, p d * (wi j d * scale j)) := by
  have e : ∀ d, (a d + p d) * wi j d = a d * wi j d + p d * wi j d := fun d => by
    obtain ⟨w, hw⟩ := hw d; obtain ⟨q, hq⟩ := hp d
    rw [hw, hq, add_coe_mul]
  have D := fun y z => EReal.left_distrib_of_nonneg_of_ne_top (scale_nonneg j) (scale_ne_top j) y z
  unfold gate
  simp only [e, Finset.sum_add_distrib, D, scale_sum (scale_nonneg j) (scale_ne_top j), EReal.mul_comm _ (scale j), ← mul_assoc]
  simp only [EReal.mul_comm, mul_assoc, mul_left_comm]
  abel

/-- The place of entry `k` of the gates' part `q`. -/
def part (q : Fin 4) (k : Fin 512) : Fin 2048 := ⟨512 * q.val + k.val, by omega⟩

/-- The cell state after one step, by the gates `g`. -/
def cell (g : Fin 2048 → EReal) (c : Fin 512 → EReal) (k : Fin 512) : EReal :=
  Ideal.logistic (g (part 1 k)) * c k + Ideal.logistic (g (part 0 k)) * Ideal.tanh (g (part 2 k))

/-- The hidden state after one step. -/
def hidden (g : Fin 2048 → EReal) (c : Fin 512 → EReal) (k : Fin 512) : EReal :=
  Ideal.logistic (g (part 3 k)) * Ideal.tanh (cell g c k)

/-- The first part starts at column 0. -/
theorem part_zero (k : Fin 512) : part 0 k = ⟨k.val, by omega⟩ := Fin.ext (by simp [part])

/-- The scale of a part: one for the third, one half for the others. -/
theorem scale_part (q : Fin 4) (k : Fin 512) : scale (part q k) = if q = 2 then 1 else half := by
  unfold scale part
  have := k.isLt
  fin_cases q <;> simp <;> omega

/-- The cell state as the kernel computes it, from the scaled gates. -/
theorem cell_scaled (g : Fin 2048 → EReal) (c : Fin 512 → EReal) (k : Fin 512) :
    half * ((Ideal.tanh (scale (part 1 k) * g (part 1 k)) + 1) * c k + (Ideal.tanh (scale (part 0 k) * g (part 0 k)) + 1) * Ideal.tanh (scale (part 2 k) * g (part 2 k)))
      = cell g c k := by
  simp only [scale_part]
  rw [EReal.left_distrib_of_nonneg_of_ne_top half_nonneg half_ne_top, cell, logistic_eq, logistic_eq]
  simp [mul_assoc]

/-- The hidden state likewise. -/
theorem hidden_scaled (g : Fin 2048 → EReal) (c : Fin 512 → EReal) (k : Fin 512) :
    half * (Ideal.tanh (scale (part 3 k) * g (part 3 k)) + 1) * Ideal.tanh (cell g c k) = hidden g c k := by
  rw [scale_part, hidden, logistic_eq]
  simp

/-- The hidden and the cell state of one row after `n` steps, on slots `a` and positions `p`. -/
def state (wi : Fin 2048 → Fin 256 → EReal) (wh : Fin 2048 → Fin 512 → EReal) (bi bh : Fin 2048 → EReal) (a p : ℕ → Fin 256 → EReal) : ℕ → (Fin 512 → EReal) × (Fin 512 → EReal)
  | 0 => (fun _ => 0, fun _ => 0)
  | n + 1 =>
    let s := state wi wh bi bh a p n
    let g := gate wi wh bi bh (a n) (p n) s.1
    (hidden g s.2, cell g s.2)

end Cert.Spec

end
-- ==== Proof.StepValue.lean ====
/- The recurrent steps of a grid point over the extended reals: each row of the block's hidden and cell state follows the
   recurrence of that row alone. -/
module

public import proofs.«01_k».proof.Proof.Body
public import proofs.«01_k».proof.Proof.Spec
public import Idealize.ShloMosaic.Lib.Pointwise

@[expose] public section

set_option maxRecDepth 16384

noncomputable section

namespace Cert.KernelIdeal.Hand

open Cert.KernelIdeal Cert.KernelIdeal.Gen
open Idealize.ShloMosaic

/-! ## What a step reads -/

/-- The left columns of the slot row beside the hidden state are the slot row. -/
theorem cat_left (x : Vec Ideal S256x256 .bf16) (h : Vec Ideal S256x512 .bf16) (r : Fin 256) (d : Fin 256) (hd : d.val < 768) :
    cat x h (ix2 r ⟨d.val, hd⟩) = x (ix2 r d) := by
  unfold cat
  simp only [← ix2_eq_valueIdx]
  exact dif_pos d.isLt

/-- The right columns are the hidden state. -/
theorem cat_right (x : Vec Ideal S256x256 .bf16) (h : Vec Ideal S256x512 .bf16) (r : Fin 256) (k : Fin 512) (hk : 256 + k.val < 768) :
    cat x h (ix2 r ⟨256 + k.val, hk⟩) = h (ix2 r k) := by
  unfold cat
  simp only [← ix2_eq_valueIdx]
  refine (dif_neg (by show ¬ (256 + k.val < 256); omega)).trans ?_
  congr 2
  exact Fin.ext (Nat.add_sub_cancel_left 256 k.val)

/-- The slot row of step `k`. -/
theorem xtRow_at (xt : Vec Ideal S16x256x256 .bf16) (k : Fin 16) (r d : Fin 256) : xtRow xt k (ix3 0 r d) = xt (ix3 k r d) := by
  unfold xtRow
  congr 1
  funext a
  fin_cases a <;> apply Fin.ext <;> simp [Rect.unit, Rect.emb]

/-- The position row of step `k` of a block. -/
theorem off1_zero (i : grid0.Coords) (k : Fin 16) : k0_off1 i (BitVec.ofNat 32 k.val) 0 = 16 * (i 1).val + k.val := by
  have e : ∀ (a : Fin 4) (k : Fin 16), (Scalar.addi (Scalar.muli (BitVec.ofNat 32 a.val) 16#32) (BitVec.ofNat 32 k.val)).toNat = 16 * a.val + k.val := by decide
  exact e (i 1) k

/-- The position gates a step adds. -/
theorem pgRow_at (i : grid0.Coords) (pg : Vec Ideal S64x2048 .f32) (k : Fin 16) (j : Fin 2048) (hk : 16 * (i 1).val + k.val < 64) :
    pgRow i pg k (ix2 0 j) = pg (ix2 ⟨16 * (i 1).val + k.val, hk⟩ j) := by
  unfold pgRow
  congr 1
  funext a
  fin_cases a <;> apply Fin.ext <;> simp [Rect.unit, Rect.emb, off1_zero]
  rfl

/-! ## One step -/

/-- A sum over the 768 columns is one over the 256 of the slot and one over the 512 of the hidden state. -/
theorem sum_768 (f : Fin 768 → EReal) : ∑ k, f k = (∑ d : Fin 256, f ⟨d.val, by omega⟩) + ∑ k : Fin 512, f ⟨256 + k.val, by omega⟩ :=
  Fin.sum_univ_add (a := 256) (b := 512) f

/-- What the weights and the positional gates of the kernel hold, in terms of the problem's arrays: each scaled, gate by gate. -/
structure Weights (w : Vec Ideal S768x2048 .bf16) (pg : Vec Ideal S64x2048 .f32) (wi : Fin 2048 → Fin 256 → EReal) (wh : Fin 2048 → Fin 512 → EReal) (bi bh : Fin 2048 → EReal)
    (p : ℕ → Fin 256 → EReal) : Prop where
  left : ∀ (d : Fin 256) (j : Fin 2048), w (ix2 ⟨d.val, by omega⟩ j) = wi j d * Spec.scale j
  right : ∀ (k : Fin 512) (j : Fin 2048), w (ix2 ⟨256 + k.val, by omega⟩ j) = wh j k * Spec.scale j
  pos : ∀ (s : Fin 64) (j : Fin 2048), pg (ix2 s j) = (bi j + bh j) * Spec.scale j + ∑ d, p s d * (wi j d * Spec.scale j)
  wi_real : ∀ j d, ∃ r : ℝ, wi j d = r
  p_real : ∀ (s : Fin 64) d, ∃ r : ℝ, p s d = r

variable {w : Vec Ideal S768x2048 .bf16} {pg : Vec Ideal S64x2048 .f32} {wi : Fin 2048 → Fin 256 → EReal} {wh : Fin 2048 → Fin 512 → EReal} {bi bh : Fin 2048 → EReal} {p : ℕ → Fin 256 → EReal}

/-- The gates of a step after the hyperbolic tangent: those of the problem, scaled. -/
theorem gates_at (W : Weights w pg wi wh bi bh p) (i : grid0.Coords) (xt : Vec Ideal S16x256x256 .bf16) (h : Vec Ideal S256x512 .bf16) (k : Fin 16) (hk : 16 * (i 1).val + k.val < 64)
    (r : Fin 256) (j : Fin 2048) :
    k0_pay11 (cat (k0_pay10 (xtRow xt k)) h) w (pgRow i pg k) (ix2 r j)
      = Ideal.tanh (Spec.scale j * Spec.gate wi wh bi bh (fun d => xt (ix3 k r d)) (p (16 * (i 1).val + k.val)) (fun k => h (ix2 r k)) j) := by
  have hx : ∀ d, k0_pay10 (xtRow xt k) (ix2 r d) = xt (ix3 k r d) := fun d => by
    pointwise [k0_pay10, xtRow_at]
  have hp := W.pos ⟨16 * (i 1).val + k.val, hk⟩
  rw [Spec.scale_gate _ _ _ _ _ _ _ _ (W.wi_real j) (W.p_real ⟨_, hk⟩)]
  pointwise [k0_pay11, pgRow_at i pg k _ hk]
  simp only [hp, sum_768, cat_left, cat_right, hx, W.left, W.right]

/-- The kernel's gate of the third kind is the plain one, the other three are halved. -/
theorem pay108_eq (X : Vec Ideal S256x768 .bf16) (w : Vec Ideal S768x2048 .bf16) (q : Vec Ideal S1x2048 .f32) : k0_pay108 X w q = k0_pay11 X w q := rfl

/-- The hidden state stored at the end is that of the step. -/
theorem pay110_eq (X : Vec Ideal S256x768 .bf16) (w : Vec Ideal S768x2048 .bf16) (q : Vec Ideal S1x2048 .f32) (cc : Vec Ideal S256x512 .f32) :
    k0_pay110 (k0_pay108 X w q) (k0_pay109 X w q) cc = k0_pay12 X w q cc := rfl

/-- The new cell state of a step. -/
theorem cell_at (X : Vec Ideal S256x768 .bf16) (w : Vec Ideal S768x2048 .bf16) (q : Vec Ideal S1x2048 .f32) (cc : Vec Ideal S256x512 .f32) (g : Fin 2048 → EReal) (r : Fin 256)
    (hg : ∀ j, k0_pay11 X w q (ix2 r j) = Ideal.tanh (Spec.scale j * g j)) (k : Fin 512) :
    k0_pay12 X w q cc (ix2 r k) = Spec.cell g (fun k => cc (ix2 r k)) k := by
  rw [← Spec.cell_scaled, Spec.part_zero]
  pointwise [k0_pay12, hg]
  rw [Spec.ofBits_half]
  rfl

/-- The new hidden state of a step. -/
theorem hidden_at (X : Vec Ideal S256x768 .bf16) (w : Vec Ideal S768x2048 .bf16) (q : Vec Ideal S1x2048 .f32) (cc : Vec Ideal S256x512 .f32) (g : Fin 2048 → EReal) (r : Fin 256)
    (hg : ∀ j, k0_pay11 X w q (ix2 r j) = Ideal.tanh (Spec.scale j * g j)) (k : Fin 512) :
    k0_pay14 X w q cc (ix2 r k) = Spec.hidden g (fun k => cc (ix2 r k)) k := by
  rw [← Spec.hidden_scaled]
  pointwise [k0_pay14, hg, cell_at X w q cc g r hg]
  rw [Spec.ofBits_half]
  rfl

/-- The same before it is rounded. -/
theorem out_at (X : Vec Ideal S256x768 .bf16) (w : Vec Ideal S768x2048 .bf16) (q : Vec Ideal S1x2048 .f32) (cc : Vec Ideal S256x512 .f32) (j : S256x512.Idx) :
    k0_pay112 (k0_pay108 X w q) (k0_pay109 X w q) cc j = k0_pay14 X w q cc j := rfl

/-! ## The steps of a grid point -/

/-- Row `r` of the state stands at step `n` of the recurrence on slots `a` and positions `p`. -/
def RowAt (wi : Fin 2048 → Fin 256 → EReal) (wh : Fin 2048 → Fin 512 → EReal) (bi bh : Fin 2048 → EReal) (a p : ℕ → Fin 256 → EReal) (r : Fin 256) (n : ℕ) (s : HC Ideal) : Prop :=
  (fun k => s.h (ix2 r k)) = (Spec.state wi wh bi bh a p n).1 ∧ (fun k => s.c (ix2 r k)) = (Spec.state wi wh bi bh a p n).2

variable {i : grid0.Coords} {xt : Vec Ideal S16x256x256 .bf16} {a : ℕ → Fin 256 → EReal} {r : Fin 256}

/-- The stored value is its argument, element by element. -/
theorem pay15_at (x : FVec Ideal S256x512 .bf16) (r : Fin 256) (q : Fin 512) : k0_pay15 (F := Ideal) x (ix2 r q) = x (ix2 r q) := by
  pointwise [k0_pay15]

/-- The hidden state kept for the next step is the one the step makes. -/
theorem pay13_at (X : Vec Ideal S256x768 .bf16) (w : Vec Ideal S768x2048 .bf16) (g : Vec Ideal S1x2048 .f32) (cc : Vec Ideal S256x512 .f32) (r : Fin 256) (q : Fin 512) :
    k0_pay13 X w g cc (ix2 r q) = k0_pay12 X w g cc (ix2 r q) := by
  pointwise [k0_pay13]

/-- Step `k` takes the recurrence one step further. -/
theorem next_at (W : Weights w pg wi wh bi bh p) (hx : ∀ (k : Fin 16) d, xt (ix3 k r d) = a (16 * (i 1).val + k.val) d) (s : HC Ideal) (k : Fin 16) (n : ℕ)
    (hn : n = 16 * (i 1).val + k.val) (h : RowAt wi wh bi bh a p r n s) : RowAt wi wh bi bh a p r (n + 1) (s.next i w pg xt k) := by
  subst hn
  obtain ⟨h1, h2⟩ := h
  have hk : 16 * (i 1).val + k.val < 64 := by have : (i 1).val < 4 := (i 1).isLt; omega
  have G := gates_at W i xt s.h k hk r
  simp only [hx, h1] at G
  constructor
  · funext q
    exact (pay15_at _ r q).trans ((hidden_at _ _ _ s.c _ r G q).trans (by rw [h2]; rfl))
  · funext q
    exact (pay13_at _ _ _ _ r q).trans ((cell_at _ _ _ s.c _ r G q).trans (by rw [h2]; rfl))

/-- Consecutive steps take it as many steps further. -/
theorem nexts_at (W : Weights w pg wi wh bi bh p) (hx : ∀ (k : Fin 16) d, xt (ix3 k r d) = a (16 * (i 1).val + k.val) d) (l : List (Fin 16)) (s : HC Ideal) (n : ℕ)
    (hl : l.map Fin.val = List.range' n l.length) (h : RowAt wi wh bi bh a p r (16 * (i 1).val + n) s) :
    RowAt wi wh bi bh a p r (16 * (i 1).val + n + l.length) (s.nexts i w pg xt l) := by
  induction l generalizing s n with
  | nil => exact h
  | cons k ks ih =>
    rw [List.map_cons, List.length_cons, List.range'_succ, List.cons.injEq] at hl
    obtain ⟨hk, hl⟩ := hl
    have := ih (s.next i w pg xt k) (n + 1) hl (next_at W hx s k (16 * (i 1).val + n) (congrArg _ hk.symm) h)
    rw [List.length_cons]
    rwa [show 16 * (i 1).val + n + (ks.length + 1) = 16 * (i 1).val + (n + 1) + ks.length by omega]

/-- The sixteen steps of a grid point. -/
theorem after_at (W : Weights w pg wi wh bi bh p) (hx : ∀ (k : Fin 16) d, xt (ix3 k r d) = a (16 * (i 1).val + k.val) d) (s : HC Ideal)
    (h : RowAt wi wh bi bh a p r (16 * (i 1).val) s) : RowAt wi wh bi bh a p r (16 * (i 1).val + 16) (s.after i w pg xt) :=
  next_at W hx _ 15 (16 * (i 1).val + 15) rfl (nexts_at W hx stepList s 0 rfl h)

/-- The hidden state a grid point ends with. -/
theorem last_at (W : Weights w pg wi wh bi bh p) (hx : ∀ (k : Fin 16) d, xt (ix3 k r d) = a (16 * (i 1).val + k.val) d) (s : HC Ideal)
    (h : RowAt wi wh bi bh a p r (16 * (i 1).val) s) (q : Fin 512) : s.last i w pg xt (ix2 r q) = (Spec.state wi wh bi bh a p (16 * (i 1).val + 16)).1 q := by
  exact (out_at _ _ _ _ _).trans ((pay15_at _ r q).symm.trans (congrFun (after_at W hx s h).1 q))

/-- The state before the first step. -/
theorem init_at : RowAt wi wh bi bh a p r 0 HC.init := by
  constructor
  · funext q
    show HC.init.h (ix2 r q) = 0
    pointwise [HC.init, k0_pay5]
  · funext q
    show HC.init.c (ix2 r q) = 0
    pointwise [HC.init, k0_pay6]

/-! ## The event, the new row, the slots and the write position of a block -/

/-- The event the first block finds. -/
theorem event_at (x : Vec Ideal S256x256 .f32) (wd : Vec Ideal S1x256 .f32) (bd : Vec Ideal S1x1 .f32) (r : Fin 256) :
    k0_pay1 x wd bd (ix2 r 0) = Spec.event (fun d => x (ix2 r d)) (fun d => wd (ix2 0 d)) (bd (ix2 0 0)) := by
  pointwise [k0_pay1]
  rfl

/-- The event bit as the kernel keeps it between the grid points. -/
theorem mask_at (x : Vec Ideal S256x256 .f32) (wd : Vec Ideal S1x256 .f32) (bd : Vec Ideal S1x1 .f32) (r : Fin 256) :
    Ideal.cmp .ogt (k0_pay2 x wd bd (ix2 r 0)) Spec.half = Spec.event (fun d => x (ix2 r d)) (fun d => wd (ix2 0 d)) (bd (ix2 0 0)) := by
  pointwise [k0_pay2, event_at]
  generalize Spec.event _ _ _ = e
  have hb : e = 0#1 ∨ e = 1#1 := by revert e; decide
  rcases hb with rfl | rfl
  · have z : FloatOps.sitofp (F := Ideal) FTy.f32 (BitVec.setWidth 32 0#1) = (0 : EReal) := by
      show (((BitVec.setWidth 32 0#1).toInt : ℝ) : EReal) = 0
      simp
    rw [z, decide_eq_false (not_lt.2 Spec.half_nonneg)]
    rfl
  · have z : FloatOps.sitofp (F := Ideal) FTy.f32 (BitVec.setWidth 32 1#1) = (1 : EReal) := by
      show (((BitVec.setWidth 32 1#1).toInt : ℝ) : EReal) = 1
      rw [show (BitVec.setWidth 32 1#1).toInt = 1 by decide]
      simp
    rw [z, decide_eq_true (by unfold Spec.half; exact_mod_cast (by norm_num : (1 / 2 : ℝ) < 1))]
    rfl

/-- The row the first block makes. -/
theorem newRow_at (x : Vec Ideal S256x256 .f32) (wv : Vec Ideal S256x256 .f32) (bv : Vec Ideal S1x256 .f32) (r d : Fin 256) :
    k0_pay3 x wv bv (ix2 r d) = Spec.newRow (fun k => x (ix2 r k)) (fun d k => wv (ix2 k d)) (fun d => bv (ix2 0 d)) d := by
  pointwise [k0_pay3]
  rfl

/-- The write position the first block makes. -/
theorem ptr_at (x : Vec Ideal S256x256 .f32) (wd : Vec Ideal S1x256 .f32) (bd : Vec Ideal S1x1 .f32) (q : Vec Ideal S256x1 .i32) (r : Fin 256) :
    k0_pay4 x wd bd q (ix2 r 0) = Spec.bump (Spec.event (fun d => x (ix2 r d)) (fun d => wd (ix2 0 d)) (bd (ix2 0 0))) (q (ix2 r 0)) := by
  pointwise [k0_pay4, event_at, Spec.remsi_64]
  rfl

/-- The slots of a grid point: slot `16 j + s` of the problem is slot `s` of point `j`. -/
theorem slots_at (i : grid0.Coords) (q : Vec Ideal S256x1 .i32) (e : Vec Ideal S256x1 .f32) (v : Vec Ideal S256x256 .f32) (sl : Vec Ideal S256x16x256 .f32) (r : Fin 256) (s : Fin 16) (d : Fin 256) :
    k0_pay8 i q e v sl (ix3 r s d)
      = Spec.slot (Ideal.cmp .ogt (e (ix2 r 0)) Spec.half) (q (ix2 r 0)) (fun d => v (ix2 r d)) (fun d => sl (ix3 r s d)) (16 * (i 1).val + s.val) d := by
  pointwise [k0_pay8]
  have hs : IntOp.addi (BitVec.ofNat 32 s.val) (Scalar.muli (BitVec.ofNat 32 (i 1).val) 16#32) = BitVec.ofNat 32 (16 * (i 1).val + s.val) := by
    have e : ∀ (a : Fin 4) (s : Fin 16), IntOp.addi (BitVec.ofNat 32 s.val) (Scalar.muli (BitVec.ofNat 32 a.val) 16#32) = BitVec.ofNat 32 (16 * a.val + s.val) := by decide
    exact e (i 1) s
  rw [hs, Spec.ofBits_half]
  unfold Spec.slot Scalar.select
  generalize BitVec.ofBool _ = b
  have hb : b = 0#1 ∨ b = 1#1 := by revert b; decide
  by_cases h : q (ix2 r 0) = BitVec.ofNat 32 (16 * (i 1).val + s.val)
  · rcases hb with rfl | rfl <;> simp [h, IntOp.andi, IntOp.cmpi]
  · rcases hb with rfl | rfl <;> simp [h, IntOp.andi, IntOp.cmpi, beq_eq_false_iff_ne.2 h]

/-- The same transposed for the steps. -/
theorem xt_at (i : grid0.Coords) (q : Vec Ideal S256x1 .i32) (e : Vec Ideal S256x1 .f32) (v : Vec Ideal S256x256 .f32) (sl : Vec Ideal S256x16x256 .f32) (r : Fin 256) (s : Fin 16) (d : Fin 256) :
    k0_pay9 i q e v sl (ix3 s r d) = k0_pay8 i q e v sl (ix3 r s d) := by
  pointwise [k0_pay9]

/-- The positional gates of the problem's step `s`. -/
theorem posGates_at (b : Vec Ideal S1x2048 .f32) (pe : Vec Ideal S64x256 .f32) (w : Vec Ideal S768x2048 .bf16) (s : Fin 64) (j : Fin 2048) :
    k0_pay7 b pe (topRows w) (ix2 s j) = b (ix2 0 j) + ∑ d : Fin 256, pe (ix2 s d) * w (ix2 ⟨d.val, by omega⟩ j) := by
  have ht : ∀ (d : Fin 256), topRows w (ix2 d j) = w (ix2 ⟨d.val, by omega⟩ j) := fun d => by
    unfold topRows
    congr 1
    funext a
    fin_cases a <;> apply Fin.ext <;> simp [Rect.unit, Rect.emb]
  pointwise [k0_pay7, ht]

end Cert.KernelIdeal.Hand

end
-- ==== Proof.HostValue.lean ====
/- What the launch's windows read, element by element: the arguments, and the weights and biases prepared on the host. -/
module

public import proofs.«01_k».proof.Proof.Gen.KernelIdeal.Frame
public import proofs.«01_k».proof.Proof.Spec
public import Idealize.ShloMosaic.Lib.Pointwise
public import Idealize.ShloMosaic.Lib.Pipeline.ValueKit
public import Idealize.ShloMosaic.Lib.StableHlo.RunRead
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.StableHlo Idealize.ShloMosaic.Tactic

/-- The scale of every gate, as the host makes it. -/
def scales : Vec Ideal S2048 .f32 :=
  concatenate S2048 0 [⟨S512, broadcastInDim S512 ![] bcast_S_S512 (constant (F := Ideal) S_ .f32 0x3F000000#32)⟩, ⟨S512, broadcastInDim S512 ![] bcast_S_S512 (constant (F := Ideal) S_ .f32 0x3F000000#32)⟩,
    ⟨S512, broadcastInDim S512 ![] bcast_S_S512 (constant (F := Ideal) S_ .f32 0x3F800000#32)⟩, ⟨S512, broadcastInDim S512 ![] bcast_S_S512 (constant (F := Ideal) S_ .f32 0x3F000000#32)⟩]
    concatenates_S512_S512_S512_S512_S2048_d0

/-- The host's scale vector holds each gate's scale. -/
theorem scales_at (j : Fin 2048) : scales (ix1 j) = Spec.scale j := by
  pointwise [scales]
  rw [Spec.ofBits_half]
  unfold Spec.scale
  split_ifs <;> first | rfl | omega

variable (m : (ℓ : Loc nD τ sig) → Buf (Elt Ideal) ℓ)

/-- An argument as launched. -/
abbrev arg (c : Dev nD) (b : Ref sig .tc) : Buf (Elt Ideal) ((c : Thread nD τ).loc b) := m ((c : Thread nD τ).loc b)

/-! The arguments by name, element by element. -/

abbrev aX (c : Dev nD) (r : Fin 512) (d : Fin 256) : EReal := arg m c main_arg0 (ix2 r d)
abbrev aS (c : Dev nD) (r : Fin 512) (s : Fin 64) (d : Fin 256) : EReal := arg m c main_arg1 (ix3 r s d)
abbrev aP (c : Dev nD) (r : Fin 512) : BitVec 32 := arg m c main_arg2 (ix1 r)
abbrev aWv (c : Dev nD) (d k : Fin 256) : EReal := arg m c main_arg3 (ix2 d k)
abbrev aBv (c : Dev nD) (d : Fin 256) : EReal := arg m c main_arg4 (ix1 d)
abbrev aWd (c : Dev nD) (d : Fin 256) : EReal := arg m c main_arg5 (ix2 0 d)
abbrev aBd (c : Dev nD) : EReal := arg m c main_arg6 (ix1 0)
abbrev aPe (c : Dev nD) (s : Fin 64) (d : Fin 256) : EReal := arg m c main_arg7 (ix2 s d)
abbrev aWi (c : Dev nD) (j : Fin 2048) (d : Fin 256) : EReal := arg m c main_arg8 (ix2 j d)
abbrev aWh (c : Dev nD) (j : Fin 2048) (k : Fin 512) : EReal := arg m c main_arg9 (ix2 j k)
abbrev aBi (c : Dev nD) (j : Fin 2048) : EReal := arg m c main_arg10 (ix1 j)
abbrev aBh (c : Dev nD) (j : Fin 2048) : EReal := arg m c main_arg11 (ix1 j)

/-- The launch finds the write positions as a column. -/
theorem V_v0 (c : Dev nD) : V m c main_v0 = shapeCast S512x1 (arg m c main_arg2) shapeCasts_S512_S512x1 := by
  show after hostOps0 _ (Proc.devRef .tc main_v0) = _
  after_reads_simp; rfl

/-- It finds the value weights transposed. -/
theorem V_v1 (c : Dev nD) : V m c main_v1 = transpose S256x256 [1, 0] (arg m c main_arg3) transposes_S256x256_S256x256_1_0 := by
  show after hostOps0 _ (Proc.devRef .tc main_v1) = _
  after_reads_simp

/-- It finds both weight matrices, transposed and scaled, one above the other. -/
theorem V_v17 (c : Dev nD) : V m c main_v17 = concatenate S768x2048 0
    [⟨S256x2048, truncf (F := Ideal) .bf16 (mulf (transpose S256x2048 [1, 0] (arg m c main_arg8) transposes_S2048x256_S256x2048_1_0) (broadcastInDim S256x2048 ![0, 1] bcast_S1x2048_S256x2048_0_1 (broadcastInDim S1x2048 ![1] bcast_S2048_S1x2048_1 scales))) bitsLt_bf16_f32⟩,
     ⟨S512x2048, truncf (F := Ideal) .bf16 (mulf (transpose S512x2048 [1, 0] (arg m c main_arg9) transposes_S2048x512_S512x2048_1_0) (broadcastInDim S512x2048 ![0, 1] bcast_S1x2048_S512x2048_0_1 (broadcastInDim S1x2048 ![1] bcast_S2048_S1x2048_1 scales))) bitsLt_bf16_f32⟩]
    concatenates_S256x2048_S512x2048_S768x2048_d0 := by
  show after hostOps0 _ (Proc.devRef .tc main_v17) = _
  after_reads_simp; rfl

/-- It finds the sum of the biases, scaled, as a row. -/
theorem V_v20 (c : Dev nD) : V m c main_v20 = shapeCast S1x2048 (mulf (F := Ideal) (φ := .f32) (addf (F := Ideal) (φ := .f32) (arg m c main_arg10) (arg m c main_arg11)) scales) shapeCasts_S2048_S1x2048 := by
  show after hostOps0 _ (Proc.devRef .tc main_v20) = _
  after_reads_simp; rfl

/-- It finds the value bias as a row. -/
theorem V_v21 (c : Dev nD) : V m c main_v21 = shapeCast S1x256 (arg m c main_arg4) shapeCasts_S256_S1x256 := by
  show after hostOps0 _ (Proc.devRef .tc main_v21) = _
  after_reads_simp; rfl

/-- It finds the detector's bias as a one-by-one array. -/
theorem V_v22 (c : Dev nD) : V m c main_v22 = shapeCast S1x1 (arg m c main_arg6) shapeCasts_S1_S1x1 := by
  show after hostOps0 _ (Proc.devRef .tc main_v22) = _
  after_reads_simp; rfl

/-! ## The windows' blocks -/

/-- The block of the rows at a grid point: the half of the batch. -/
theorem index_0 : ∀ t, win0_0.index t = ![(grid0.coords t 0).val, 0] := by decide +kernel
/-- The block of the slots: the half of the batch and the sixteen slots. -/
theorem index_1 : ∀ t, win0_1.index t = ![(grid0.coords t 0).val, (grid0.coords t 1).val, 0] := by decide +kernel
/-- The weights, biases and embeddings are each one block. -/
theorem index_3 : ∀ t, win0_3.index t = ![0, 0] := by decide +kernel
theorem index_4 : ∀ t, win0_4.index t = ![0, 0] := by decide +kernel
theorem index_5 : ∀ t, win0_5.index t = ![0, 0] := by decide +kernel
theorem index_6 : ∀ t, win0_6.index t = ![0, 0] := by decide +kernel
theorem index_7 : ∀ t, win0_7.index t = ![0, 0] := by decide +kernel
theorem index_8 : ∀ t, win0_8.index t = ![0, 0] := by decide +kernel
theorem index_9 : ∀ t, win0_9.index t = ![0, 0] := by decide +kernel
/-- The block of the write positions: the half of the batch. -/
theorem index_2 : ∀ t, win0_2.index t = ![(grid0.coords t 0).val, 0] := by decide +kernel

/-- The row of the problem that row `r` of grid point `t`'s block is. -/
def row (t : Fin cfg0.N) (r : Fin 256) : Fin 512 := ⟨256 * (grid0.coords t 0).val + r.val, by have : (grid0.coords t 0).val < 2 := (grid0.coords t 0).isLt; omega⟩

/-- The slot of the problem that slot `s` of grid point `t`'s block is. -/
def slotOf (t : Fin cfg0.N) (s : Fin 16) : Fin 64 := ⟨16 * (grid0.coords t 1).val + s.val, by have : (grid0.coords t 1).val < 4 := (grid0.coords t 1).isLt; omega⟩

/-- The rows a grid point reads. -/
theorem blk_0 (c : Dev nD) (t : Fin cfg0.N) (r d : Fin 256) : iblk m c 0 t (ix2 r d) = aX m c (row t r) d := by
  refine Eq.trans ?_ (congrFun (V_main_arg0 m c) _)
  unfold row
  blk_ext [iblk, V, index_0 t]

/-- The slots it reads. -/
theorem blk_1 (c : Dev nD) (t : Fin cfg0.N) (r : Fin 256) (s : Fin 16) (d : Fin 256) : iblk m c 1 t (ix3 r s d) = aS m c (row t r) (slotOf t s) d := by
  refine Eq.trans ?_ (congrFun (V_main_arg1 m c) _)
  unfold row slotOf
  blk_ext [iblk, V, index_1 t]

/-- The write positions it reads. -/
theorem blk_2 (c : Dev nD) (t : Fin cfg0.N) (r : Fin 256) : iblk m c 2 t (ix2 r 0) = aP m c (row t r) := by
  have e : (V m c main_v0 : Vec Ideal S512x1 .i32) (ix2 (row t r) 0) = aP m c (row t r) := by
    rw [V_v0]; pointwise []
  rw [← e]
  unfold row
  blk_ext [iblk, V, index_2 t]

/-- The value weights, transposed. -/
theorem blk_3 (c : Dev nD) (t : Fin cfg0.N) (k d : Fin 256) : iblk m c 3 t (ix2 k d) = aWv m c d k := by
  have e : V m c main_v1 (ix2 k d) = aWv m c d k := by
    rw [V_v1]; pointwise []
  rw [← e]
  blk_ext [iblk, V, index_3 t]

/-- The value bias. -/
theorem blk_4 (c : Dev nD) (t : Fin cfg0.N) (d : Fin 256) : iblk m c 4 t (ix2 0 d) = aBv m c d := by
  have e : V m c main_v21 (ix2 0 d) = aBv m c d := by
    rw [V_v21]; pointwise []
  rw [← e]
  blk_ext [iblk, V, index_4 t]

/-- The detector's weights. -/
theorem blk_5 (c : Dev nD) (t : Fin cfg0.N) (d : Fin 256) : iblk m c 5 t (ix2 0 d) = aWd m c d := by
  refine Eq.trans ?_ (congrFun (V_main_arg5 m c) _)
  blk_ext [iblk, V, index_5 t]

/-- The detector's bias. -/
theorem blk_6 (c : Dev nD) (t : Fin cfg0.N) : iblk m c 6 t (ix2 0 0) = aBd m c := by
  have e : V m c main_v22 (ix2 0 0) = aBd m c := by
    rw [V_v22]; pointwise []
  rw [← e]
  blk_ext [iblk, V, index_6 t]

/-- The position embedding. -/
theorem blk_7 (c : Dev nD) (t : Fin cfg0.N) (s : Fin 64) (d : Fin 256) : iblk m c 7 t (ix2 s d) = aPe m c s d := by
  refine Eq.trans ?_ (congrFun (V_main_arg7 m c) _)
  blk_ext [iblk, V, index_7 t]

/-- The gate weights are read whole. -/
theorem blk_8 (c : Dev nD) (t : Fin cfg0.N) (k : Fin 768) (j : Fin 2048) : iblk m c 8 t (ix2 k j) = V m c main_v17 (ix2 k j) := by
  blk_ext [iblk, V, index_8 t]

/-- The upper rows of the gate weights are the scaled input weights. -/
theorem blk_8_left (c : Dev nD) (t : Fin cfg0.N) (d : Fin 256) (j : Fin 2048) : iblk m c 8 t (ix2 ⟨d.val, by omega⟩ j) = aWi m c j d * Spec.scale j := by
  rw [blk_8, V_v17]
  pointwise [scales_at]

/-- The lower rows are the scaled hidden weights. -/
theorem blk_8_right (c : Dev nD) (t : Fin cfg0.N) (k : Fin 512) (j : Fin 2048) : iblk m c 8 t (ix2 ⟨256 + k.val, by omega⟩ j) = aWh m c j k * Spec.scale j := by
  rw [blk_8, V_v17]
  pointwise [scales_at]

/-- The gate bias is the scaled sum of the two biases. -/
theorem blk_9 (c : Dev nD) (t : Fin cfg0.N) (j : Fin 2048) : iblk m c 9 t (ix2 0 j) = (aBi m c j + aBh m c j) * Spec.scale j := by
  have e : (V m c main_v20 (ix2 0 j) : EReal) = (aBi m c j + aBh m c j) * Spec.scale j := by
    rw [V_v20]; pointwise [scales_at]
  rw [← e]
  blk_ext [iblk, V, index_9 t]

end Cert.KernelIdeal.Hand

end
-- ==== Proof.KernelValue.lean ====
/- The kernel's result arrays, element by element, over the extended reals. -/
module

public import proofs.«01_k».proof.Proof.Region
public import proofs.«01_k».proof.Proof.StepValue
public import proofs.«01_k».proof.Proof.HostValue

@[expose] public section

set_option maxRecDepth 16384

noncomputable section

namespace Cert.KernelIdeal.Hand

open Cert.KernelIdeal Cert.KernelIdeal.Gen
open Idealize.ShloMosaic Idealize.ShloMosaic.TcCoe Idealize.ShloMosaic.StableHlo Idealize.ShloMosaic.Tactic

variable (m : (ℓ : Loc nD τ sig) → Buf (Elt Ideal) ℓ)

/-! ## The results, element by element -/

/-- Whether a row has an event. -/
abbrev evt (c : Dev nD) (r : Fin 512) : BitVec 1 := Spec.event (aX m c r) (aWd m c) (aBd m c)

/-- The new slots. -/
def newSlots (c : Dev nD) (r : Fin 512) (s : Fin 64) (d : Fin 256) : EReal :=
  Spec.slot (evt m c r) (aP m c r) (Spec.newRow (aX m c r) (aWv m c) (aBv m c)) (aS m c r s) s.val d

/-- The next write positions. -/
def newPtr (c : Dev nD) (r : Fin 512) : BitVec 32 := Spec.bump (evt m c r) (aP m c r)

/-- The slots of a row in the order the recurrence takes them. -/
def slotSeq (c : Dev nD) (r : Fin 512) (n : ℕ) (d : Fin 256) : EReal := newSlots m c r ⟨n % 64, Nat.mod_lt _ (by decide)⟩ d

/-- The positions likewise. -/
def posSeq (c : Dev nD) (n : ℕ) (d : Fin 256) : EReal := aPe m c ⟨n % 64, Nat.mod_lt _ (by decide)⟩ d

/-- The hidden state after the 64 steps. -/
def lastHidden (c : Dev nD) (r k : Fin 512) : EReal := (Spec.state (aWi m c) (aWh m c) (aBi m c) (aBh m c) (slotSeq m c r) (posSeq m c) 64).1 k

/-- What the results are claimed under: write positions that are not negative, and input weights and position embeddings that are real numbers. -/
structure InRange (c : Dev nD) : Prop where
  ptr : ∀ r, (aP m c r).toNat < 2 ^ 31
  pe_real : ∀ s d, ∃ x : ℝ, aPe m c s d = x
  wi_real : ∀ j d, ∃ x : ℝ, aWi m c j d = x

/-! ## The carried state -/

/-- The step of a grid point's slot reads that slot's new contents. -/
theorem slotSeq_at (c : Dev nD) (t : Fin cfg0.N) (r : Fin 512) (s : Fin 16) (d : Fin 256) :
    slotSeq m c r (16 * (grid0.coords t 1).val + s.val) d = newSlots m c r (slotOf t s) d := by
  unfold slotSeq slotOf
  congr 1
  apply Fin.ext
  have : (grid0.coords t 1).val < 4 := (grid0.coords t 1).isLt
  show (16 * (grid0.coords t 1).val + s.val) % 64 = 16 * (grid0.coords t 1).val + s.val
  omega

/-- Step `s` reads the embedding of position `s`. -/
theorem posSeq_at (c : Dev nD) (s : Fin 64) (d : Fin 256) : posSeq m c s.val d = aPe m c s d := by
  unfold posSeq
  congr 1
  exact Fin.ext (Nat.mod_eq_of_lt s.isLt)

/-- What the state carried into grid point `t` holds, row by row. -/
structure CarryAt (c : Dev nD) (t : Fin cfg0.N) (e : Carry Ideal) : Prop where
  v_eq : ∀ r d, e.o.v (ix2 r d) = Spec.newRow (aX m c (row t r)) (aWv m c) (aBv m c) d
  mask_eq : ∀ r, Ideal.cmp .ogt (e.o.e (ix2 r 0)) Spec.half = evt m c (row t r)
  pg_eq : ∀ (s : Fin 64) (j : Fin 2048), e.o.pg (ix2 s j) = (aBi m c j + aBh m c j) * Spec.scale j + ∑ d, posSeq m c s.val d * (aWi m c j d * Spec.scale j)
  np_eq : ∀ r, e.np (ix2 r 0) = newPtr m c (row t r)
  row_at : ∀ r, RowAt (aWi m c) (aWh m c) (aBi m c) (aBh m c) (slotSeq m c (row t r)) (posSeq m c) r (16 * (grid0.coords t 1).val) e.s

variable {m}

/-- A carried state in order gives the steps the weights they expect. -/
theorem CarryAt.weights {c : Dev nD} (R : InRange m c) {t : Fin cfg0.N} {e : Carry Ideal} (h : CarryAt m c t e) :
    Weights (iblk m c 8 t) e.o.pg (aWi m c) (aWh m c) (aBi m c) (aBh m c) (posSeq m c) :=
  ⟨blk_8_left m c t, blk_8_right m c t, h.pg_eq, R.wi_real, fun s d => by rw [posSeq_at]; exact R.pe_real s d⟩

/-- The slots grid point `t` stores. -/
theorem CarryAt.slots {c : Dev nD} {t : Fin cfg0.N} {e : Carry Ideal} (h : CarryAt m c t e) (r : Fin 256) (s : Fin 16) (d : Fin 256) :
    e.o.ns (grid0.coords t) (iblk m c 1 t) (iblk m c 2 t) (ix3 r s d) = newSlots m c (row t r) (slotOf t s) d := by
  unfold Once.ns newSlots
  rw [slots_at, h.mask_eq, blk_2]
  simp only [h.v_eq, blk_1]
  rfl

/-- The slots the steps of grid point `t` take. -/
theorem CarryAt.xt {c : Dev nD} {t : Fin cfg0.N} {e : Carry Ideal} (h : CarryAt m c t e) (r : Fin 256) (s : Fin 16) (d : Fin 256) :
    e.o.xt (grid0.coords t) (iblk m c 1 t) (iblk m c 2 t) (ix3 s r d) = slotSeq m c (row t r) (16 * (grid0.coords t 1).val + s.val) d := by
  rw [slotSeq_at]
  exact (xt_at _ _ _ _ _ r s d).trans (h.slots r s d)

/-- The state at the first point of a block of rows. -/
theorem start_at (c : Dev nD) (t : Fin cfg0.N) (h0 : (grid0.coords t 1).val = 0) : CarryAt m c t (Carry.start m c t) where
  v_eq r d := by
    refine (newRow_at _ _ _ r d).trans ?_
    simp only [blk_0, blk_3, blk_4]
  mask_eq r := by
    refine (mask_at _ _ _ r).trans ?_
    simp only [blk_0, blk_5, blk_6]
  pg_eq s j := by
    refine (posGates_at _ _ _ s j).trans ?_
    simp only [blk_9, blk_7, blk_8_left, posSeq_at]
  np_eq r := by
    refine (ptr_at _ _ _ _ r).trans ?_
    simp only [blk_0, blk_5, blk_6, blk_2]
    rfl
  row_at r := by rw [h0]; exact init_at

/-- Every fourth grid point is the first of its half of the batch. -/
theorem coords_first : ∀ t : Fin grid0.N, t.val % 4 = 0 → (grid0.coords t 1).val = 0 := by decide +kernel

/-- At any other grid point the half is that of the point before and the block is the next one. -/
theorem coords_next : ∀ t : Fin grid0.N, ¬ t.val % 4 = 0 →
    (grid0.coords t 0).val = (grid0.coords ⟨t.val - 1, lt_of_le_of_lt (Nat.sub_le _ _) t.isLt⟩ 0).val ∧ (grid0.coords t 1).val = (grid0.coords ⟨t.val - 1, lt_of_le_of_lt (Nat.sub_le _ _) t.isLt⟩ 1).val + 1 := by decide +kernel

/-- The state at every point. -/
theorem entry_at {c : Dev nD} (R : InRange m c) (n : ℕ) (hn : n < cfg0.N) : CarryAt m c ⟨n, hn⟩ (entry m c n hn) := by
  induction n using Nat.strongRecOn with
  | _ n ih =>
    by_cases h : n % 4 = 0
    · rw [show entry m c n hn = _ from entry_start m c ⟨n, hn⟩ h]
      exact start_at c ⟨n, hn⟩ (coords_first ⟨n, hn⟩ h)
    · rw [show entry m c n hn = _ from entry_next m c ⟨n, hn⟩ h]
      obtain ⟨e0, e1⟩ := coords_next ⟨n, hn⟩ h
      have hb := ih (n - 1) (by omega) (lt_of_le_of_lt (Nat.sub_le _ _) hn)
      have er : ∀ r, row ⟨n, hn⟩ r = row ⟨n - 1, lt_of_le_of_lt (Nat.sub_le _ _) hn⟩ r := fun r => Fin.ext (by unfold row; dsimp only; rw [e0])
      refine ⟨fun r d => ?_, fun r => ?_, hb.pg_eq, fun r => ?_, fun r => ?_⟩
      · rw [er]; exact hb.v_eq r d
      · rw [er]; exact hb.mask_eq r
      · rw [er]; exact hb.np_eq r
      · rw [er, e1]
        exact after_at (hb.weights R) (fun s d => hb.xt r s d) _ (hb.row_at r)

/-! ## The result arrays -/

/-- The block of the hidden state: the half of the batch. -/
theorem index_10 : ∀ t, win0_10.index t = ![(grid0.coords t 0).val, 0] := by decide +kernel
/-- The block of the new slots: the half of the batch and the sixteen slots. -/
theorem index_11 : ∀ t, win0_11.index t = ![(grid0.coords t 0).val, (grid0.coords t 1).val, 0] := by decide +kernel
/-- The block of the next write positions: the half of the batch. -/
theorem index_12 : ∀ t, win0_12.index t = ![(grid0.coords t 0).val, 0] := by decide +kernel

/-- The last grid point of a half has the last block. -/
theorem coords_last : ∀ t : Fin grid0.N, t.val % 4 = 3 → (grid0.coords t 1).val = 3 := by decide +kernel

/-- The hidden state. -/
def hiddenArr (m : (ℓ : Loc nD τ sig) → Buf (Elt Ideal) ℓ) (c : Dev nD) : Vec Ideal S512x512 .f32 := fun i => lastHidden m c (i 0) (i 1)

/-- The new slots. -/
def slotsArr (m : (ℓ : Loc nD τ sig) → Buf (Elt Ideal) ℓ) (c : Dev nD) : Vec Ideal S512x64x256 .f32 := fun i => newSlots m c (i 0) (i 1) (i 2)

/-- The next write positions, as the launch leaves them. -/
def ptrArr (m : (ℓ : Loc nD τ sig) → Buf (Elt Ideal) ℓ) (c : Dev nD) : Vec Ideal S512x1 .i32 := fun i => newPtr m c (i 0)

/-- The launch leaves the last hidden state in its first result. -/
theorem arr_10 {c : Dev nD} (R : InRange m c) : (dats m 0 c).arrAt 10 cfg0.N = hiddenArr m c := by
  refine (dats m 0 c).arrAt_eq_of_covers 10 _ (by decide +kernel) fun t hf y => ?_
  have h3 := coords_last t ((flush0_10 t).1 hf)
  blk_simp
  rw [after10]
  have he := entry_at R t.val t.isLt
  obtain ⟨r, q, rfl⟩ : ∃ (r : Fin 256) (q : Fin 512), y = ix2 r q := ⟨y 0, y 1, eq_ix2 y⟩
  have hl := last_at (he.weights R) (fun s d => he.xt r s d) _ (he.row_at r) q
  rw [show (grid0.coords (⟨t.val, t.isLt⟩ : Fin cfg0.N) 1).val = 3 from h3] at hl
  have e : (win0_10.blk t).view.emb (ix2 r q) = ix2 (row t r) q := by
    unfold row
    blk_ext [index_10 t]
  exact hl.trans (congrArg (hiddenArr m c) e).symm

/-- It leaves the new slots in its second. -/
theorem arr_11 {c : Dev nD} (R : InRange m c) : (dats m 0 c).arrAt 11 cfg0.N = slotsArr m c := by
  refine (dats m 0 c).arrAt_eq_of_covers 11 _ (by decide +kernel) fun t hf y => ?_
  blk_simp
  rw [after11]
  have he := entry_at R t.val t.isLt
  obtain ⟨r, s, d, rfl⟩ : ∃ (r : Fin 256) (s : Fin 16) (d : Fin 256), y = ix3 r s d := ⟨y 0, y 1, y 2, eq_ix3 y⟩
  have e : (win0_11.blk t).view.emb (ix3 r s d) = ix3 (row t r) (slotOf t s) d := by
    unfold row slotOf
    blk_ext [index_11 t]
  exact (he.slots r s d).trans (congrArg (slotsArr m c) e).symm

/-- It leaves the next write positions in its third. -/
theorem arr_12 {c : Dev nD} (R : InRange m c) : (dats m 0 c).arrAt 12 cfg0.N = ptrArr m c := by
  refine (dats m 0 c).arrAt_eq_of_covers 12 _ (by decide +kernel) fun t hf y => ?_
  blk_simp
  rw [after12]
  have he := entry_at R t.val t.isLt
  obtain ⟨r, q, rfl⟩ : ∃ (r : Fin 256) (q : Fin 1), y = ix2 r q := ⟨y 0, y 1, eq_ix2 y⟩
  obtain rfl : q = 0 := Subsingleton.elim _ _
  have e : (win0_12.blk t).view.emb (ix2 r 0) = ix2 (row t r) 0 := by
    unfold row
    blk_ext [index_12 t]
  exact (he.np_eq r).trans (congrArg (ptrArr m c) e).symm

end Cert.KernelIdeal.Hand

end
-- ==== Proof.KernelRun.lean ====
/- The kernel's run, with what it leaves in each result, and what the precondition says of the arguments. -/
module

public import proofs.«01_k».proof.Defs
public import proofs.«01_k».proof.Proof.Gen.Pre_in_range
public import proofs.«01_k».proof.Proof.KernelValue
public import Idealize.ShloMosaic.Lib.ReduceAll
public import Idealize.ShloMosaic.Lib.Affine

@[expose] public section

set_option maxRecDepth 16384

noncomputable section

namespace Cert.KernelIdeal.Hand

open Cert.KernelIdeal Cert.KernelIdeal.Gen
open Idealize.ShloMosaic Idealize.ShloMosaic.TcCoe Idealize.ShloMosaic.StableHlo Idealize.ShloMosaic.Tactic Idealize.SL.Sem

/-! ## The precondition, element by element -/

/-- An extended real whose absolute value is below the infinity constant is a real number. -/
theorem real_of_abs_lt (x : EReal) (h : Ideal.cmp .olt (max x (-x)) (Ideal.ofBits .f32 0x7F800000#32) = 1#1) : ∃ a : ℝ, x = a := by
  have htop : Ideal.ofBits .f32 0x7F800000#32 = ⊤ := by simp [Ideal.ofBits, Ideal.ieee]
  rw [htop] at h
  have hlt : max x (-x) < ⊤ := by
    by_contra hn
    simp [Ideal.cmp, hn] at h
  induction x using EReal.rec with
  | bot => simp at hlt
  | coe a => exact ⟨a, rfl⟩
  | top => simp at hlt

/-- A signed word that is not negative is below `2^31` as a natural number. -/
theorem toNat_lt_of_cmpi (p : BitVec 32) (h : IntOp.cmpi .sge p 0#32 = 1#1) : p.toNat < 2 ^ 31 := by
  rw [IntOp.cmpi_sge] at h
  have e := BitVec.toInt_eq_toNat_cond p
  have a : (0#32 : BitVec 32).toInt = 0 := by decide
  have := p.isLt
  split_ifs at e <;> omega

/-- Two bits whose conjunction is one are both one. -/
theorem andi_one {a b : BitVec 1} (h : IntOp.andi a b = 1#1) : a = 1#1 ∧ b = 1#1 := by
  revert a b; decide

instance : Subsingleton Cert.Pre_in_range.S_.Idx := ⟨fun a b => funext fun k => k.elim0⟩

/-- The precondition, argument by argument. -/
theorem in_range_of (m : (ℓ : Loc nD τ sig) → Buf (Elt Ideal) ℓ)
    (h : Cert.Pre_KernelIdeal_in_range (hPre_in_range := Cert.Pre_in_range.Gen.facts) m) (c : Dev nD) : InRange m c := by
  have h0 := congrFun (h c) ix0
  dsimp only [Cert.Pre_in_range.fn] at h0
  obtain ⟨h01, hw⟩ := andi_one h0
  obtain ⟨hp, he⟩ := andi_one h01
  refine ⟨fun r => ?_, fun s d => ?_, fun j d => ?_⟩
  · exact toNat_lt_of_cmpi _ (Host.reduce_andi_all _ _ _ _ _ hp (ix1 r))
  · exact real_of_abs_lt _ (Host.reduce_andi_all _ _ _ _ _ he (ix2 s d))
  · exact real_of_abs_lt _ (Host.reduce_andi_all _ _ _ _ _ hw (ix2 j d))

/-! ## The results -/

/-- The next write positions, as the kernel returns them. -/
def ptrOut (m : (ℓ : Loc nD τ sig) → Buf (Elt Ideal) ℓ) (c : Dev nD) : Vec Ideal S512 .i32 := fun i => newPtr m c (i 0)

/-- The reshape after the launch returns the launch's write positions. -/
theorem tail_ptr (m : (ℓ : Loc nD τ sig) → Buf (Elt Ideal) ℓ) {c : Dev nD} (R : InRange m c) :
    Pipeline.afterTail₀ cfgs (dats m) 0 (V0 m) [hostOps1] c main_v24 = ptrOut m c := by
  have e : Pipeline.afterTail₀ cfgs (dats m) 0 (V0 m) [hostOps1] c main_v24 = shapeCast S512 (ptrArr m c) shapeCasts_S512x1_S512 := by
    unfold Pipeline.afterTail₀
    rw [← arr_12 R]
    after_reads_simp
    exact congrArg (fun x : Vec Ideal S512x1 .i32 => shapeCast S512 x shapeCasts_S512x1_S512)
      (Pipeline.withArrays_arr (cfgs 0).spec (by decide) c _ _ 12)
  rw [e]
  funext i
  idx_vars i
  pointwise [ptrArr, ptrOut]

/-- Every run of the kernel leaves the last hidden state, the new slots and the next write positions. -/
theorem run_results (m : (ℓ : Loc nD τ sig) → Buf (Elt Ideal) ℓ) (ρ : Dev nD → PrngReg) (R : ∀ c, InRange m c) :
    θ_run defs (onTc (τ := τ) (main (F := Ideal))) ⟨m, fun _ => 0, ρ⟩ (fun r => ∀ c : Dev nD,
      r.2.mem ((c.tc : Thread nD τ).loc main_v23_0) = hiddenArr m c
      ∧ r.2.mem ((c.tc : Thread nD τ).loc main_v23_1) = slotsArr m c
      ∧ r.2.mem ((c.tc : Thread nD τ).loc main_v24) = ptrOut m c) :=
  (θ_run defs _ _).mono (fun r h c =>
    ⟨((h c).1 10).trans (arr_10 (R c)), ((h c).1 11).trans (arr_11 (R c)),
      ((h c).2 main_v24 (Pipeline.mem_restRefs_of main_v24 (by decide) (by decide))).trans (tail_ptr m (R c))⟩) (run_post m ρ)

end Cert.KernelIdeal.Hand

end
-- ==== Proof.RefValue.lean ====
/- The reference's results element by element, over the extended reals. -/
module

public import proofs.«01_k».proof.Proof.RefRun
public import proofs.«01_k».proof.Proof.Spec
public import Idealize.ShloMosaic.Lib.Pointwise
public import Idealize.ShloMosaic.Lib.Routing.OpsPair
public import Idealize.ShloMosaic.Lib.Routing.OpsSet
public import Idealize.ShloMosaic.Lib.WordArith.Masks

@[expose] public section

set_option maxRecDepth 16384

noncomputable section

namespace Cert.ReferenceIdeal.Hand

open Cert.ReferenceIdeal Cert.ReferenceIdeal.Gen
open Idealize.ShloMosaic

/-- The detector's logit of a row. -/
theorem logit_at (x : Vec Ideal S512x256 .f32) (wd : Vec Ideal S1x256 .f32) (bd : Vec Ideal S1 .f32) (r : Fin 512) :
    logit x wd bd (ix2 r 0) = Spec.logit (fun d => x (ix2 r d)) (fun d => wd (ix2 0 d)) (bd (ix1 0)) := by
  pointwise [logit]
  rfl

/-- Whether a row has an event. -/
theorem event_at (x : Vec Ideal S512x256 .f32) (wd : Vec Ideal S1x256 .f32) (bd : Vec Ideal S1 .f32) (r : Fin 512) :
    event x wd bd (ix2 r 0) = Spec.event (fun d => x (ix2 r d)) (fun d => wd (ix2 0 d)) (bd (ix1 0)) := by
  pointwise [event, logit_at]
  rfl

/-- The row to be written. -/
theorem newRow_at (x : Vec Ideal S512x256 .f32) (wv : Vec Ideal S256x256 .f32) (bv : Vec Ideal S256 .f32) (r : Fin 512) (d : Fin 256) :
    newRow x wv bv (ix2 r d) = Spec.newRow (fun k => x (ix2 r k)) (fun d k => wv (ix2 d k)) (fun d => bv (ix1 d)) d := by
  pointwise [newRow]
  rfl

/-- What the recurrence reads at slot `k`: the new slot and the embedding. -/
theorem inputs_at (s : Vec Ideal S512x64x256 .f32) (pe : Vec Ideal S64x256 .f32) (k : Fin 64) (r : Fin 512) (d : Fin 256) :
    inputs s pe (ix3 k r d) = s (ix3 r k d) + pe (ix2 k d) := by
  pointwise [inputs]

/-- The gates of a row. -/
theorem gates_at (xt : Vec Ideal S512x256 .f32) (h : Vec Ideal S512x512 .f32) (wi : Vec Ideal S2048x256 .f32) (wh : Vec Ideal S2048x512 .f32) (bi bh : Vec Ideal S2048 .f32) (r : Fin 512) (j : Fin 2048) :
    gates xt h wi wh bi bh (ix2 r j) = ((∑ d, xt (ix2 r d) * wi (ix2 j d)) + bi (ix1 j)) + (∑ k, h (ix2 r k) * wh (ix2 j k)) + bh (ix1 j) := by
  pointwise [gates]

/-- The sigmoid is the logistic function, element by element. -/
theorem sigm_at (x : Vec Ideal S512x512 .f32) (j : S512x512.Idx) : sigm x j = Ideal.logistic (x j) := by
  pointwise [sigm]
  rfl

/-- The next cell state of a row. -/
theorem cellOf_at (g : Vec Ideal S512x2048 .f32) (cc : Vec Ideal S512x512 .f32) (r k : Fin 512) :
    cellOf g cc (ix2 r k) = Spec.cell (fun j => g (ix2 r j)) (fun k => cc (ix2 r k)) k := by
  pointwise [cellOf, sigm_at]
  rw [Spec.cell, Spec.part_zero]
  rfl

/-- The next hidden state of a row. -/
theorem hiddenOf_at (g : Vec Ideal S512x2048 .f32) (cc : Vec Ideal S512x512 .f32) (r k : Fin 512) :
    hiddenOf g cc (ix2 r k) = Spec.hidden (fun j => g (ix2 r j)) (fun k => cc (ix2 r k)) k := by
  pointwise [hiddenOf, sigm_at, cellOf_at]
  rfl

/-! ## The new slots and the next write position -/

/-- The first index word of row `r` is `r`. -/
theorem places_row (p : Vec Ideal S512 .i32) (r : Fin 512) : places (F := Ideal) p (ix2 r 0) = BitVec.ofNat 32 r.val := by
  pointwise [places]
  exact Routing.wrap_of_lt _ _ (by rw [BitVec.toNat_ofNat]; omega)

/-- The second is the write position, when it is not negative. -/
theorem places_slot (p : Vec Ideal S512 .i32) (r : Fin 512) (h : (p (ix1 r)).toNat < 2 ^ 31) : places (F := Ideal) p (ix2 r 1) = p (ix1 r) := by
  pointwise [places]
  exact Routing.wrap_of_lt _ _ (by omega)

/-- The element of the updates at `(r', d')` lands at `(r, s, d)` exactly when the two index words are `r` and `s` and `d'` is `d`. -/
theorem lands (r' : Fin 512) (d' : Fin 256) (r : Fin 512) (s : Fin 64) (d : Fin 256) (idx : IVec S512x2 32) :
    scatter_S512x64x256_S512x2_S512x256_1_01_01_1.resultIdx? (ix2 r' d') idx = some (ix3 r s d)
      ↔ (idx (ix2 r' 0)).toInt = r.val ∧ (idx (ix2 r' 1)).toInt = s.val ∧ d' = d := by
  have i0 : scatter_S512x64x256_S512x2_S512x256_1_01_01_1.siIdx (ix2 r' d') ⟨0, by decide⟩ = ix2 r' 0 := by funext a; fin_cases a <;> rfl
  have i1 : scatter_S512x64x256_S512x2_S512x256_1_01_01_1.siIdx (ix2 r' d') ⟨1, by decide⟩ = ix2 r' 1 := by funext a; fin_cases a <;> rfl
  have s0 : scatter_S512x64x256_S512x2_S512x256_1_01_01_1.start (ix2 r' d') idx 0 = (idx (ix2 r' 0)).toInt := by rw [← i0]; rfl
  have s1 : scatter_S512x64x256_S512x2_S512x256_1_01_01_1.start (ix2 r' d') idx 1 = (idx (ix2 r' 1)).toInt := by rw [← i1]; rfl
  have s2 : scatter_S512x64x256_S512x2_S512x256_1_01_01_1.start (ix2 r' d') idx 2 = 0 := rfl
  have w0 : scatter_S512x64x256_S512x2_S512x256_1_01_01_1.window (ix2 r' d') 0 = 0 := rfl
  have w1 : scatter_S512x64x256_S512x2_S512x256_1_01_01_1.window (ix2 r' d') 1 = 0 := rfl
  have w2 : scatter_S512x64x256_S512x2_S512x256_1_01_01_1.window (ix2 r' d') 2 = d'.val := rfl
  rw [Routing.resultIdx?_eq_some]
  constructor
  · intro h
    have h0 := h 0; have h1 := h 1; have h2 := h 2
    rw [s0, w0] at h0; rw [s1, w1] at h1; rw [s2, w2] at h2
    refine ⟨by simpa using h0, by simpa using h1, Fin.ext ?_⟩
    simpa using h2
  · rintro ⟨h0, h1, rfl⟩ a
    fin_cases a
    · show ScatterDims.start _ _ _ 0 + (ScatterDims.window _ _ 0 : Int) = _
      rw [s0, w0, h0]; simp
    · show ScatterDims.start _ _ _ 1 + (ScatterDims.window _ _ 1 : Int) = _
      rw [s1, w1, h1]; simp
    · show ScatterDims.start _ _ _ 2 + (ScatterDims.window _ _ 2 : Int) = _
      rw [s2, w2]; simp

/-- A word below `2^31` is the same number signed and unsigned. -/
theorem toInt_of_lt {w : BitVec 32} (h : w.toNat < 2 ^ 31) : w.toInt = w.toNat := BitVec.toInt_eq_toNat_of_lt (by omega)

/-- The slots after the write: row `r`'s new row stands in its slot, and every other element keeps what it held. -/
theorem scattered_at (x : Vec Ideal S512x256 .f32) (sl : Vec Ideal S512x64x256 .f32) (p : Vec Ideal S512 .i32) (wv : Vec Ideal S256x256 .f32) (bv : Vec Ideal S256 .f32)
    (hp : ∀ r, (p (ix1 r)).toNat < 2 ^ 31) (r : Fin 512) (s : Fin 64) (d : Fin 256) :
    scattered x sl p wv bv (ix3 r s d) = if p (ix1 r) = BitVec.ofNat 32 s.val then newRow x wv bv (ix2 r d) else sl (ix3 r s d) := by
  have hr : ∀ r' : Fin 512, (places (F := Ideal) p (ix2 r' 0)).toInt = r'.val := fun r' => by
    rw [places_row, toInt_of_lt (by rw [BitVec.toNat_ofNat]; omega), BitVec.toNat_ofNat]; omega
  have hs : ∀ r' : Fin 512, (places (F := Ideal) p (ix2 r' 1)).toInt = (p (ix1 r')).toNat := fun r' => by
    rw [places_slot p r' (hp r'), toInt_of_lt (by have := hp r'; omega)]
  have hit : ∀ k : S512x256.Idx, scatter_S512x64x256_S512x2_S512x256_1_01_01_1.resultIdx? k (places (F := Ideal) p) = some (ix3 r s d) → k = ix2 r d ∧ (p (ix1 r)).toNat = s.val := fun k hk => by
    idx_vars k
    obtain ⟨h0, h1, h2⟩ := (lands _ _ _ _ _ _).1 hk
    rw [hr] at h0; rw [hs] at h1
    have e : k0 = r := Fin.ext (by exact_mod_cast h0)
    subst e; subst h2
    exact ⟨rfl, by exact_mod_cast h1⟩
  unfold scattered
  split
  · rename_i h
    have hv : (p (ix1 r)).toNat = s.val := by rw [h, BitVec.toNat_ofNat]; omega
    exact Routing.scatter_set_hit _ _ _ _ _ _ (fun k hk => by rw [(hit k hk).1]) (ix2 r d) ((lands _ _ _ _ _ _).2 ⟨hr r, by rw [hs, hv], rfl⟩)
  · rename_i h
    refine Routing.scatter_set_miss _ _ _ _ _ fun k hk => h ?_
    rw [← (hit k hk).2]; simp

/-- The new slots, element by element. -/
theorem slots'_at (x : Vec Ideal S512x256 .f32) (sl : Vec Ideal S512x64x256 .f32) (p : Vec Ideal S512 .i32) (wv : Vec Ideal S256x256 .f32) (bv : Vec Ideal S256 .f32)
    (wd : Vec Ideal S1x256 .f32) (bd : Vec Ideal S1 .f32) (hp : ∀ r, (p (ix1 r)).toNat < 2 ^ 31) (r : Fin 512) (s : Fin 64) (d : Fin 256) :
    slots' x sl p wv bv wd bd (ix3 r s d)
      = Spec.slot (Spec.event (fun d => x (ix2 r d)) (fun d => wd (ix2 0 d)) (bd (ix1 0))) (p (ix1 r))
          (Spec.newRow (fun k => x (ix2 r k)) (fun d k => wv (ix2 d k)) (fun d => bv (ix1 d))) (fun d => sl (ix3 r s d)) s.val d := by
  pointwise [slots', event_at, scattered_at x sl p wv bv hp, newRow_at]
  unfold Spec.slot Scalar.select
  by_cases h1 : p (ix1 r) = BitVec.ofNat 32 s.val <;> simp [h1]

/-- Of a word up to `2^31` the remainder by 64 is not negative; at `2^31` itself, the least signed word, it is zero. -/
theorem srem_64_nonneg (w : BitVec 32) (h : w.toNat ≤ 2 ^ 31) : 0 ≤ (w.srem 64#32).toInt := by
  rw [BitVec.toInt_srem, show (64#32 : BitVec 32).toInt = 64 by decide]
  rcases Nat.lt_or_eq_of_le h with h | h
  · rw [toInt_of_lt h]
    exact Int.tmod_nonneg _ (Int.natCast_nonneg _)
  · rw [show w = 2147483648#32 from BitVec.eq_of_toNat_eq h]
    decide

/-- Of a word up to `2^31` the remainder with the divisor's sign is the truncated one. -/
theorem wrapped_at (q : Vec Ideal S512 .i32) (r : Fin 512) (h : (q (ix1 r)).toNat ≤ 2 ^ 31) :
    wrapped (F := Ideal) (constantI S_ 32 64#32) q (ix1 r) = (q (ix1 r)).srem 64#32 := by
  pointwise [wrapped, divisor]
  generalize q (ix1 r) = w at h
  have hn := srem_64_nonneg w h
  have hd : Scalar.select (IntOp.cmpi .eq 64#32 0#32) 1#32 64#32 = 64#32 := by decide
  have hc : IntOp.cmpi .ne (IntOp.cmpi .slt (BitVec.srem w 64#32) 0#32) (IntOp.cmpi .slt 64#32 0#32) = 0#1 := by
    rw [show IntOp.cmpi .slt (BitVec.srem w 64#32) 0#32 = BitVec.ofBool (decide ((BitVec.srem w 64#32).toInt < 0)) from rfl, decide_eq_false (not_lt.2 hn)]
    decide
  rw [hd, Spec.remsi_64, hc, show ∀ b : BitVec 1, IntOp.andi 0#1 b = 0#1 by decide]
  rfl

/-- The position moves on by one at an event. -/
theorem bumped_at (x : Vec Ideal S512x256 .f32) (p : Vec Ideal S512 .i32) (wd : Vec Ideal S1x256 .f32) (bd : Vec Ideal S1 .f32) (r : Fin 512) :
    bumped x p wd bd (ix1 r) = p (ix1 r) + (Spec.event (fun d => x (ix2 r d)) (fun d => wd (ix2 0 d)) (bd (ix1 0))).setWidth 32 := by
  pointwise [bumped, event_at]
  rfl

/-- The next write position of a row. -/
theorem ptr_at (x : Vec Ideal S512x256 .f32) (p : Vec Ideal S512 .i32) (wd : Vec Ideal S1x256 .f32) (bd : Vec Ideal S1 .f32) (r : Fin 512) (hp : (p (ix1 r)).toNat < 2 ^ 31) :
    wrapped (F := Ideal) (constantI S_ 32 64#32) (bumped x p wd bd) (ix1 r)
      = Spec.bump (Spec.event (fun d => x (ix2 r d)) (fun d => wd (ix2 0 d)) (bd (ix1 0))) (p (ix1 r)) := by
  have hb := bumped_at x p wd bd r
  rw [wrapped_at, hb, Spec.bump]
  rw [hb]
  generalize Spec.event _ _ _ = e
  have := e.isLt
  rw [BitVec.toNat_add, BitVec.toNat_setWidth]
  omega

/-! ## The recurrence -/

/-- The row of the loop's slot `k`. -/
theorem slotRows_at (xs : Vec Ideal S64x512x256 .f32) (k : ℕ) (hk : k < 64) (r : Fin 512) (d : Fin 256) :
    slotRows xs (fun _ => Scf.iv 0#32 1#32 k) (ix2 r d) = xs (ix3 ⟨k, hk⟩ r d) := by
  have e0 : ((Scf.iv 0#32 1#32 k : BitVec 32)).toInt = (k : Int) := by
    rw [toInt_of_lt (by rw [WordArith.toNat_iv_zero_one k (by omega)]; omega), WordArith.toNat_iv_zero_one k (by omega)]
  pointwise [slotRows]
  congr 1
  have c0 := Host.clampedStart_of_le (s := S64x512x256) (t := S1x512x256) rfl (fun j => BitVec.toInt ((![fun x => Scf.iv 0#32 1#32 k, constantI S_ 32 0#32, constantI S_ 32 0#32] : Fin 3 → S_.Idx → BitVec 32) j (Shape.Idx.first h_S_))) 0 k
    e0 (by show k + 1 ≤ 64; omega)
  have c1 := Host.clampedStart_of_le (s := S64x512x256) (t := S1x512x256) rfl (fun j => BitVec.toInt ((![fun x => Scf.iv 0#32 1#32 k, constantI S_ 32 0#32, constantI S_ 32 0#32] : Fin 3 → S_.Idx → BitVec 32) j (Shape.Idx.first h_S_))) 1 0
    rfl (by decide)
  have c2 := Host.clampedStart_of_le (s := S64x512x256) (t := S1x512x256) rfl (fun j => BitVec.toInt ((![fun x => Scf.iv 0#32 1#32 k, constantI S_ 32 0#32, constantI S_ 32 0#32] : Fin 3 → S_.Idx → BitVec 32) j (Shape.Idx.first h_S_))) 2 0
    rfl (by decide)
  congr 1 <;> apply Fin.ext
  · exact c0
  · exact (congrArg (· + r.val) c1).trans (Nat.zero_add _)
  · exact (congrArg (· + d.val) c2).trans (Nat.zero_add _)

/-- Row `r` of the state after `n` steps is the recurrence of that row alone. -/
theorem state_at (s : Vec Ideal S512x64x256 .f32) (pe : Vec Ideal S64x256 .f32) (wi : Vec Ideal S2048x256 .f32) (wh : Vec Ideal S2048x512 .f32) (bi bh : Vec Ideal S2048 .f32)
    (r : Fin 512) (a p : ℕ → Fin 256 → EReal) (ha : ∀ k : Fin 64, ∀ d, a k d = s (ix3 r k d)) (hp : ∀ k : Fin 64, ∀ d, p k d = pe (ix2 k d)) (n : ℕ) (hn : n ≤ 64) :
    (fun k => (state (inputs s pe) wi wh bi bh n).1 (ix2 r k)) = (Spec.state (fun j d => wi (ix2 j d)) (fun j k => wh (ix2 j k)) (fun j => bi (ix1 j)) (fun j => bh (ix1 j)) a p n).1
      ∧ (fun k => (state (inputs s pe) wi wh bi bh n).2 (ix2 r k)) = (Spec.state (fun j d => wi (ix2 j d)) (fun j k => wh (ix2 j k)) (fun j => bi (ix1 j)) (fun j => bh (ix1 j)) a p n).2 := by
  induction n with
  | zero =>
    constructor <;> funext k <;> unfold state Spec.state <;> pointwise []
  | succ n ih =>
    obtain ⟨ih1, ih2⟩ := ih (by omega)
    have hg : (fun j => gates (slotRows (inputs s pe) (fun _ => Scf.iv 0#32 1#32 n)) (state (inputs s pe) wi wh bi bh n).1 wi wh bi bh (ix2 r j))
        = Spec.gate (fun j d => wi (ix2 j d)) (fun j k => wh (ix2 j k)) (fun j => bi (ix1 j)) (fun j => bh (ix1 j)) (a n) (p n)
          (Spec.state (fun j d => wi (ix2 j d)) (fun j k => wh (ix2 j k)) (fun j => bi (ix1 j)) (fun j => bh (ix1 j)) a p n).1 := by
      funext j
      rw [gates_at, Spec.gate, ← ih1]
      simp only [slotRows_at _ n (by omega : n < 64), inputs_at]
      have ea : ∀ d, a n d = s (ix3 r ⟨n, by omega⟩ d) := ha ⟨n, by omega⟩
      have ep : ∀ d, p n d = pe (ix2 ⟨n, by omega⟩ d) := hp ⟨n, by omega⟩
      simp only [ea, ep]
    constructor
    · funext k
      show hiddenOf (F := Ideal) _ _ (ix2 r k) = Spec.hidden _ _ k
      rw [hiddenOf_at, hg, ih2]
    · funext k
      show cellOf (F := Ideal) _ _ (ix2 r k) = Spec.cell _ _ k
      rw [cellOf_at, hg, ih2]

end Cert.ReferenceIdeal.Hand

end
-- ==== Proof.RefResults.lean ====
/- The reference's results, of arguments in range, in the words the kernel's results are stated in. -/
module

public import proofs.«01_k».proof.Proof.RefValue

@[expose] public section

noncomputable section

namespace Cert.ReferenceIdeal.Hand

open Cert.ReferenceIdeal Cert.ReferenceIdeal.Gen
open Idealize.ShloMosaic Idealize.ShloMosaic.TcCoe Idealize.ShloMosaic.StableHlo Idealize.ShloMosaic.Tactic

/-- The reference's hidden state after the 64 steps, of new slots and positions read by step. -/
theorem hidden_at (x : Vec Ideal S512x256 .f32) (sl : Vec Ideal S512x64x256 .f32) (p : Vec Ideal S512 .i32) (wv : Vec Ideal S256x256 .f32) (bv : Vec Ideal S256 .f32)
    (wd : Vec Ideal S1x256 .f32) (bd : Vec Ideal S1 .f32) (pe : Vec Ideal S64x256 .f32) (wi : Vec Ideal S2048x256 .f32) (wh : Vec Ideal S2048x512 .f32) (bi bh : Vec Ideal S2048 .f32)
    (hp : ∀ r, (p (ix1 r)).toNat < 2 ^ 31) (r k : Fin 512) (a q : ℕ → Fin 256 → EReal)
    (ha : ∀ s : Fin 64, ∀ d, a s d = Spec.slot (Spec.event (fun d => x (ix2 r d)) (fun d => wd (ix2 0 d)) (bd (ix1 0))) (p (ix1 r))
          (Spec.newRow (fun k => x (ix2 r k)) (fun d k => wv (ix2 d k)) (fun d => bv (ix1 d))) (fun d => sl (ix3 r s d)) s.val d)
    (hq : ∀ s : Fin 64, ∀ d, q s d = pe (ix2 s d)) :
    (state (inputs (slots' x sl p wv bv wd bd) pe) wi wh bi bh 64).1 (ix2 r k)
      = (Spec.state (fun j d => wi (ix2 j d)) (fun j k => wh (ix2 j k)) (fun j => bi (ix1 j)) (fun j => bh (ix1 j)) a q 64).1 k :=
  congrFun (state_at _ pe wi wh bi bh r a q (fun s d => (ha s d).trans (slots'_at x sl p wv bv wd bd hp r s d).symm) hq 64 le_rfl).1 k

end Cert.ReferenceIdeal.Hand

end
-- ==== Proof.Value.lean ====
/- The kernel and the reference return the same three results, of arguments in range. -/
module

public import proofs.«01_k».proof.Proof.KernelRun
public import proofs.«01_k».proof.Proof.RefResults

@[expose] public section

set_option maxRecDepth 16384

noncomputable section

namespace Cert.Value

open Idealize.ShloMosaic Idealize.ShloMosaic.TcCoe Idealize.ShloMosaic.Tactic Idealize.SL.Sem
open Cert.KernelIdeal.Hand

/-- The kernel and the reference, of the same arguments in range, return the same hidden state, slots and write positions. -/
theorem algebraic : Cert.algebraic_KernelIdeal_ReferenceIdeal_pre_in_range (hKernelIdeal := Cert.KernelIdeal.Gen.facts)
    (hReferenceIdeal := Cert.ReferenceIdeal.Gen.facts) (hPre_in_range := Cert.Pre_in_range.Gen.facts) := by
  intro m g m' g' hpre harg
  have R := in_range_of m hpre
  refine ⟨hiddenArr m, slotsArr m, ptrOut m, ?_, ?_⟩
  · refine (θ_run Cert.KernelIdeal.defs _ _).mono (fun r h c => ?_) (θ_run_and (run_results m g R) (Cert.KernelIdeal.Hand.frame m g))
    obtain ⟨h0, h1, h2⟩ := h.1 c
    exact ⟨h0, h1, h2, h.2.1 c⟩
  · refine (θ_run Cert.ReferenceIdeal.defs _ _).mono (fun r h c => ?_)
      (θ_run_and (Cert.ReferenceIdeal.Value.run_fold m' g') (Cert.ReferenceIdeal.Hand.run_args m' g'))
    obtain ⟨e0, e1, e2, e3, e4, e5, e6, e7, e8, e9, e10, e11⟩ := harg c
    refine ⟨(h.1 c Cert.ReferenceIdeal.main_v45_6 rfl).trans ?_, (h.1 c Cert.ReferenceIdeal.main_v34 rfl).trans ?_,
      (h.1 c Cert.ReferenceIdeal.main_v38 rfl).trans ?_, h.2 c⟩
    · rw [Cert.ReferenceIdeal.Hand.final_hidden, e0, e1, e2, e3, e4, e5, e6, e7, e8, e9, e10, e11]
      funext i
      obtain ⟨r, k, rfl⟩ : ∃ (r k : Fin 512), i = ix2 r k := ⟨i 0, i 1, eq_ix2 i⟩
      exact Cert.ReferenceIdeal.Hand.hidden_at _ _ _ _ _ _ _ _ _ _ _ _ (R c).ptr r k (slotSeq m c r) (posSeq m c)
        (fun s d => congrArg (fun s => newSlots m c r s d) (Fin.ext (Nat.mod_eq_of_lt s.isLt))) (posSeq_at m c)
    · rw [Cert.ReferenceIdeal.Hand.final_slots, e0, e1, e2, e3, e4, e5, e6]
      funext i
      obtain ⟨r, s, d, rfl⟩ : ∃ (r : Fin 512) (s : Fin 64) (d : Fin 256), i = ix3 r s d := ⟨i 0, i 1, i 2, eq_ix3 i⟩
      exact Cert.ReferenceIdeal.Hand.slots'_at _ _ _ _ _ _ _ (R c).ptr r s d
    · rw [Cert.ReferenceIdeal.Hand.final_ptr, e0, e2, e5, e6]
      funext i
      obtain ⟨r, rfl⟩ : ∃ r : Fin 512, i = ix1 r := ⟨i 0, eq_ix1 i⟩
      exact Cert.ReferenceIdeal.Hand.ptr_at _ _ _ _ r ((R c).ptr r)

end Cert.Value

end
-- ==== Proof.lean ====
/- The proof of the certificate's claims, from the modules under `Proof/`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_in_range
public import proofs.«01_k».proof.Proof.Bridge
public import proofs.«01_k».proof.Proof.Region
public import proofs.«01_k».proof.Proof.RefRun
public import proofs.«01_k».proof.Proof.Value
public import Idealize.ShloMosaic.Adequacy
public import Idealize.ShloMosaic.Init

@[expose] public section

noncomputable section

namespace Cert.Proof

open Idealize.ShloMosaic Idealize.SL.Sem Cert.Kernel

/-- The idealized kernel's frame. -/
theorem ideal_frame : Cert.quiescent_KernelIdeal (hKernelIdeal := Cert.KernelIdeal.Gen.facts) := fun m ρ _ => Cert.KernelIdeal.Hand.frame m ρ

/-- The reference's frame. -/
theorem reference_frame : Cert.quiescent_ReferenceIdeal (hReferenceIdeal := Cert.ReferenceIdeal.Gen.facts) := fun m ρ _ => Cert.ReferenceIdeal.Hand.frame m ρ

/-- The idealized kernel's frame under the precondition, which it does not need. -/
theorem ideal_frame_pre : Cert.quiescent_KernelIdeal_pre_in_range (hKernelIdeal := Cert.KernelIdeal.Gen.facts) (hPre_in_range := Cert.Pre_in_range.Gen.facts) :=
  fun m ρ _ => Cert.KernelIdeal.Hand.frame m ρ

/-- The reference's frame under the precondition, which it does not need. -/
theorem reference_frame_pre : Cert.quiescent_ReferenceIdeal_pre_in_range (hReferenceIdeal := Cert.ReferenceIdeal.Gen.facts) (hPre_in_range := Cert.Pre_in_range.Gen.facts) :=
  fun m ρ _ => Cert.ReferenceIdeal.Hand.frame m ρ

/-- Every claim of the certificate. -/
theorem claim : Cert.Claim :=
  ⟨Cert.Kernel.Gen.facts, Cert.KernelIdeal.Gen.facts, Cert.ReferenceIdeal.Gen.facts, Cert.Pre_in_range.Gen.facts, Cert.Bridge.kernel_frame,
    ideal_frame, ideal_frame_pre, reference_frame, reference_frame_pre, trivial, Cert.Value.algebraic⟩

end Cert.Proof

end
